-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x18 : Shape := ⟨4, ![4, 32, 32, 18]⟩
abbrev S4x32x32x36 : Shape := ⟨4, ![4, 32, 32, 36]⟩
abbrev S9216x4 : Shape := ⟨2, ![9216, 4]⟩
abbrev S4x32x32x9x2 : Shape := ⟨5, ![4, 32, 32, 9, 2]⟩
abbrev S_ : Shape := ⟨0, ![]⟩
abbrev S4x32x32x9 : Shape := ⟨4, ![4, 32, 32, 9]⟩
abbrev S4x32x32x9x1 : Shape := ⟨5, ![4, 32, 32, 9, 1]⟩
abbrev S4x9216 : Shape := ⟨2, ![4, 9216]⟩
abbrev S4x9216x4 : Shape := ⟨3, ![4, 9216, 4]⟩
abbrev S9216x1 : Shape := ⟨2, ![9216, 1]⟩
abbrev S9216 : Shape := ⟨1, ![9216]⟩
abbrev S4x9216x1 : Shape := ⟨3, ![4, 9216, 1]⟩
abbrev S1x9216 : Shape := ⟨2, ![1, 9216]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x4 : Shape := ⟨3, ![4, 2000, 4]⟩
abbrev S4x2048x4 : Shape := ⟨3, ![4, 2048, 4]⟩
abbrev S4x4x2048 : Shape := ⟨3, ![4, 4, 2048]⟩
abbrev S4x384x4 : Shape := ⟨3, ![4, 384, 4]⟩
abbrev S1x2048x4 : Shape := ⟨3, ![1, 2048, 4]⟩
abbrev S1x4x2048 : Shape := ⟨3, ![1, 4, 2048]⟩
abbrev S1x384x4 : Shape := ⟨3, ![1, 384, 4]⟩
abbrev S1x2048 : Shape := ⟨2, ![1, 2048]⟩
abbrev S128x128 : Shape := ⟨2, ![128, 128]⟩
abbrev S128x1 : Shape := ⟨2, ![128, 1]⟩
abbrev S1x1x2048 : Shape := ⟨3, ![1, 1, 2048]⟩
abbrev S1x128 : Shape := ⟨2, ![1, 128]⟩
abbrev S1x128x1 : Shape := ⟨3, ![1, 128, 1]⟩
abbrev S128x2048 : Shape := ⟨2, ![128, 2048]⟩
abbrev S128 : Shape := ⟨1, ![128]⟩
abbrev S1x1x128 : Shape := ⟨3, ![1, 1, 128]⟩
abbrev S1x1 : Shape := ⟨2, ![1, 1]⟩
abbrev S2048x2048 : Shape := ⟨2, ![2048, 2048]⟩
abbrev S2x2048 : Shape := ⟨2, ![2, 2048]⟩
abbrev S4x300x4 : Shape := ⟨3, ![4, 300, 4]⟩
abbrev S4 : Shape := ⟨1, ![4]⟩
abbrev S4x1x1 : Shape := ⟨3, ![4, 1, 1]⟩
abbrev S4x300x1 : Shape := ⟨3, ![4, 300, 1]⟩
abbrev S4x300x5 : Shape := ⟨3, ![4, 300, 5]⟩
abbrev S1200x5 : Shape := ⟨2, ![1200, 5]⟩

abbrev nBuf : Space → Nat
  | .hbm => 223
  | .vmem => 9
  | .smem => 0
  | _ => 0

abbrev hbmTy0_0 (i : Nat) : BufTy := match i % 128 with
  | 0 => ⟨S4x32x32x18, .f32⟩
  | 1 => ⟨S4x32x32x36, .f32⟩
  | 2 => ⟨S9216x4, .f32⟩
  | 3 => ⟨S4x32x32x9x2, .f32⟩
  | 4 => ⟨S_, .f32⟩
  | 5 => ⟨S4x32x32x9, .f32⟩
  | 6 => ⟨S_, .f32⟩
  | 7 => ⟨S4x32x32x9, .f32⟩
  | 8 => ⟨S4x32x32x9, .f32⟩
  | 9 => ⟨S4x32x32x9x1, .f32⟩
  | 10 => ⟨S4x32x32x9x2, .f32⟩
  | 11 => ⟨S4x32x32x9x2, .f32⟩
  | 12 => ⟨S4x32x32x9x2, .f32⟩
  | 13 => ⟨S_, .f32⟩
  | 14 => ⟨S4x32x32x9, .f32⟩
  | 15 => ⟨S4x32x32x9x1, .f32⟩
  | 16 => ⟨S4x32x32x9x2, .f32⟩
  | 17 => ⟨S4x32x32x9x2, .f32⟩
  | 18 => ⟨S4x32x32x9x1, .f32⟩
  | 19 => ⟨S4x32x32x9, .f32⟩
  | 20 => ⟨S4x9216, .f32⟩
  | 21 => ⟨S4x9216x4, .f32⟩
  | 22 => ⟨S9216x1, .f32⟩
  | 23 => ⟨S9216, .f32⟩
  | 24 => ⟨S9216x1, .f32⟩
  | 25 => ⟨S9216, .f32⟩
  | 26 => ⟨S9216, .f32⟩
  | 27 => ⟨S_, .f32⟩
  | 28 => ⟨S9216, .f32⟩
  | 29 => ⟨S9216, .f32⟩
  | 30 => ⟨S9216x1, .f32⟩
  | 31 => ⟨S9216, .f32⟩
  | 32 => ⟨S9216x1, .f32⟩
  | 33 => ⟨S9216, .f32⟩
  | 34 => ⟨S9216, .f32⟩
  | 35 => ⟨S_, .f32⟩
  | 36 => ⟨S9216, .f32⟩
  | 37 => ⟨S9216, .f32⟩
  | 38 => ⟨S9216x1, .f32⟩
  | 39 => ⟨S9216, .f32⟩
  | 40 => ⟨S_, .f32⟩
  | 41 => ⟨S9216, .f32⟩
  | 42 => ⟨S9216, .f32⟩
  | 43 => ⟨S9216, .f32⟩
  | 44 => ⟨S9216x1, .f32⟩
  | 45 => ⟨S9216, .f32⟩
  | 46 => ⟨S_, .f32⟩
  | 47 => ⟨S9216, .f32⟩
  | 48 => ⟨S9216, .f32⟩
  | 49 => ⟨S9216, .f32⟩
  | 50 => ⟨S4x9216x1, .f32⟩
  | 51 => ⟨S4x9216, .f32⟩
  | 52 => ⟨S4x9216x1, .f32⟩
  | 53 => ⟨S4x9216, .f32⟩
  | 54 => ⟨S4x9216x1, .f32⟩
  | 55 => ⟨S4x9216, .f32⟩
  | 56 => ⟨S4x9216x1, .f32⟩
  | 57 => ⟨S4x9216, .f32⟩
  | 58 => ⟨S1x9216, .f32⟩
  | 59 => ⟨S4x9216, .f32⟩
  | 60 => ⟨S4x9216, .f32⟩
  | 61 => ⟨S1x9216, .f32⟩
  | 62 => ⟨S4x9216, .f32⟩
  | 63 => ⟨S4x9216, .f32⟩
  | 64 => ⟨S1x9216, .f32⟩
  | 65 => ⟨S4x9216, .f32⟩
  | 66 => ⟨S4x9216, .f32⟩
  | 67 => ⟨S1x9216, .f32⟩
  | 68 => ⟨S4x9216, .f32⟩
  | 69 => ⟨S4x9216, .f32⟩
  | 70 => ⟨S_, .f32⟩
  | 71 => ⟨S_, .f32⟩
  | 72 => ⟨S_, .f32⟩
  | 73 => ⟨S4x9216, .f32⟩
  | 74 => ⟨S4x9216, .f32⟩
  | 75 => ⟨S_, .f32⟩
  | 76 => ⟨S4x9216, .f32⟩
  | 77 => ⟨S4x9216, .f32⟩
  | 78 => ⟨S4x9216, .f32⟩
  | 79 => ⟨S1x9216, .f32⟩
  | 80 => ⟨S4x9216, .f32⟩
  | 81 => ⟨S4x9216, .f32⟩
  | 82 => ⟨S_, .f32⟩
  | 83 => ⟨S_, .f32⟩
  | 84 => ⟨S_, .f32⟩
  | 85 => ⟨S4x9216, .f32⟩
  | 86 => ⟨S4x9216, .f32⟩
  | 87 => ⟨S_, .f32⟩
  | 88 => ⟨S4x9216, .f32⟩
  | 89 => ⟨S4x9216, .f32⟩
  | 90 => ⟨S4x9216, .f32⟩
  | 91 => ⟨S1x9216, .f32⟩
  | 92 => ⟨S4x9216, .f32⟩
  | 93 => ⟨S4x9216, .f32⟩
  | 94 => ⟨S_, .f32⟩
  | 95 => ⟨S4x9216, .f32⟩
  | 96 => ⟨S4x9216, .f32⟩
  | 97 => ⟨S4x9216, .f32⟩
  | 98 => ⟨S_, .f32⟩
  | 99 => ⟨S4x9216, .f32⟩
  | 100 => ⟨S4x9216, .f32⟩
  | 101 => ⟨S4x9216, .f32⟩
  | 102 => ⟨S_, .f32⟩
  | 103 => ⟨S4x9216, .f32⟩
  | 104 => ⟨S4x9216, .f32⟩
  | 105 => ⟨S4x9216, .f32⟩
  | 106 => ⟨S_, .f32⟩
  | 107 => ⟨S4x9216, .f32⟩
  | 108 => ⟨S4x9216, .f32⟩
  | 109 => ⟨S4x9216, .f32⟩
  | 110 => ⟨S4x9216x1, .f32⟩
  | 111 => ⟨S4x9216x1, .f32⟩
  | 112 => ⟨S4x9216x1, .f32⟩
  | 113 => ⟨S4x9216x1, .f32⟩
  | 114 => ⟨S4x9216x4, .f32⟩
  | 115 => ⟨S4x9216x1, .f32⟩
  | 116 => ⟨S4x9216, .f32⟩
  | 117 => ⟨S_, .f32⟩
  | 118 => ⟨S_, .f32⟩
  | 119 => ⟨S_, .f32⟩
  | 120 => ⟨S4x9216, .f32⟩
  | 121 => ⟨S4x9216, .f32⟩
  | 122 => ⟨S_, .f32⟩
  | 123 => ⟨S4x9216, .f32⟩
  | 124 => ⟨S4x9216, .f32⟩
  | 125 => ⟨S4x9216x1, .f32⟩
  | 126 => ⟨S4x9216, .f32⟩
  | 127 => ⟨S_, .f32⟩
  | _ => ⟨S4x32x32x18, .f32⟩

abbrev hbmTy0_1 (i : Nat) : BufTy := match i % 128 with
  | 0 => ⟨S_, .f32⟩
  | 1 => ⟨S_, .f32⟩
  | 2 => ⟨S4x9216, .f32⟩
  | 3 => ⟨S4x9216, .f32⟩
  | 4 => ⟨S_, .f32⟩
  | 5 => ⟨S4x9216, .f32⟩
  | 6 => ⟨S4x9216, .f32⟩
  | 7 => ⟨S4x9216x1, .f32⟩
  | 8 => ⟨S4x9216, .f32⟩
  | 9 => ⟨S_, .f32⟩
  | 10 => ⟨S_, .f32⟩
  | 11 => ⟨S_, .f32⟩
  | 12 => ⟨S4x9216, .f32⟩
  | 13 => ⟨S4x9216, .f32⟩
  | 14 => ⟨S_, .f32⟩
  | 15 => ⟨S4x9216, .f32⟩
  | 16 => ⟨S4x9216, .f32⟩
  | 17 => ⟨S4x9216x1, .f32⟩
  | 18 => ⟨S4x9216, .f32⟩
  | 19 => ⟨S_, .f32⟩
  | 20 => ⟨S_, .f32⟩
  | 21 => ⟨S_, .f32⟩
  | 22 => ⟨S4x9216, .f32⟩
  | 23 => ⟨S4x9216, .f32⟩
  | 24 => ⟨S_, .f32⟩
  | 25 => ⟨S4x9216, .f32⟩
  | 26 => ⟨S4x9216, .f32⟩
  | 27 => ⟨S4x9216x1, .f32⟩
  | 28 => ⟨S4x9216x1, .f32⟩
  | 29 => ⟨S4x9216x1, .f32⟩
  | 30 => ⟨S4x9216x1, .f32⟩
  | 31 => ⟨S4x9216x4, .f32⟩
  | 32 => ⟨S4x9216x1, .f32⟩
  | 33 => ⟨S4x9216, .f32⟩
  | 34 => ⟨S4x9216x1, .f32⟩
  | 35 => ⟨S4x9216, .f32⟩
  | 36 => ⟨S4x9216, .f32⟩
  | 37 => ⟨S_, .f32⟩
  | 38 => ⟨S4x9216, .f32⟩
  | 39 => ⟨S4x9216, .f32⟩
  | 40 => ⟨S4x9216x1, .f32⟩
  | 41 => ⟨S4x9216, .f32⟩
  | 42 => ⟨S4x9216x1, .f32⟩
  | 43 => ⟨S4x9216, .f32⟩
  | 44 => ⟨S4x9216, .f32⟩
  | 45 => ⟨S_, .f32⟩
  | 46 => ⟨S4x9216, .f32⟩
  | 47 => ⟨S4x9216, .f32⟩
  | 48 => ⟨S_, .f32⟩
  | 49 => ⟨S4x9216, .f32⟩
  | 50 => ⟨S4x9216, .i1⟩
  | 51 => ⟨S_, .f32⟩
  | 52 => ⟨S4x9216, .f32⟩
  | 53 => ⟨S4x9216, .i1⟩
  | 54 => ⟨S4x9216, .i1⟩
  | 55 => ⟨S_, .f32⟩
  | 56 => ⟨S_, .f32⟩
  | 57 => ⟨S4x9216, .f32⟩
  | 58 => ⟨S4x9216, .f32⟩
  | 59 => ⟨S4x2000, .f32⟩
  | 60 => ⟨S4x2000, .i32⟩
  | 61 => ⟨S4x2000x1, .i32⟩
  | 62 => ⟨S_, .i32⟩
  | 63 => ⟨S4x2000x1, .i32⟩
  | 64 => ⟨S4x2000x1, .i1⟩
  | 65 => ⟨S_, .i32⟩
  | 66 => ⟨S4x2000x1, .i32⟩
  | 67 => ⟨S4x2000x1, .i32⟩
  | 68 => ⟨S4x2000x1, .i32⟩
  | 69 => ⟨S1, .i32⟩
  | 70 => ⟨S_, .i32⟩
  | 71 => ⟨S4x2000x1, .i32⟩
  | 72 => ⟨S4x2000x1, .i1⟩
  | 73 => ⟨S1x1x1, .i32⟩
  | 74 => ⟨S4x2000x1, .i32⟩
  | 75 => ⟨S4x2000x1, .i1⟩
  | 76 => ⟨S4x2000x1, .i1⟩
  | 77 => ⟨S_, .i1⟩
  | 78 => ⟨S4x2000, .i1⟩
  | 79 => ⟨S4x2000x4, .f32⟩
  | 80 => ⟨S4x2000x4, .i1⟩
  | 81 => ⟨S_, .f32⟩
  | 82 => ⟨S4x2000x4, .f32⟩
  | 83 => ⟨S4x2000x4, .f32⟩
  | 84 => ⟨S_, .i32⟩
  | 85 => ⟨S_, .f32⟩
  | 86 => ⟨S4x2048x4, .f32⟩
  | 87 => ⟨S4x4x2048, .f32⟩
  | 88 => ⟨S4x384x4, .f32⟩
  | 89 => ⟨S4x300x4, .f32⟩
  | 90 => ⟨S4, .f32⟩
  | 91 => ⟨S4x1x1, .f32⟩
  | 92 => ⟨S4x300x1, .f32⟩
  | 93 => ⟨S4x300x5, .f32⟩
  | 94 => ⟨S1200x5, .f32⟩
  | _ => ⟨S4x32x32x18, .f32⟩

abbrev hbmTy (i : Nat) : BufTy := match i / 128 with
  | 0 => hbmTy0_0 i
  | 1 => hbmTy0_1 i
  | _ => ⟨S4x32x32x18, .f32⟩

abbrev bufTy : (tb : Table) → Fin (tcTables nBuf tb) → BufTy
  | .hbm, ⟨i, _⟩ => hbmTy i
  | .local _ .vmem, ⟨0, _⟩ => ⟨S1x2048x4, .f32⟩
  | .local _ .vmem, ⟨1, _⟩ => ⟨S1x2048x4, .f32⟩
  | .local _ .vmem, ⟨2, _⟩ => ⟨S1x4x2048, .f32⟩
  | .local _ .vmem, ⟨3, _⟩ => ⟨S1x4x2048, .f32⟩
  | .local _ .vmem, ⟨4, _⟩ => ⟨S1x384x4, .f32⟩
  | .local _ .vmem, ⟨5, _⟩ => ⟨S1x384x4, .f32⟩
  | .local _ .vmem, ⟨6, _⟩ => ⟨S1x2048, .f32⟩
  | .local _ .vmem, ⟨7, _⟩ => ⟨S128x128, .f32⟩
  | .local _ .vmem, ⟨8, _⟩ => ⟨S128x1, .f32⟩
  | _, _ => ⟨S4x32x32x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_7 : Ref sig .tc := ⟨.hbm, 70, rfl⟩
abbrev main_cst_8 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_cst_16 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_cst_18 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_cst_20 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_21 : Ref sig .tc := ⟨.hbm, 147, rfl⟩
abbrev main_cst_22 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_23 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_24 : Ref sig .tc := ⟨.hbm, 173, rfl⟩
abbrev main_v116 : Ref sig .tc := ⟨.hbm, 174, rfl⟩
abbrev main_v117 : Ref sig .tc := ⟨.hbm, 175, rfl⟩
abbrev main_cst_25 : Ref sig .tc := ⟨.hbm, 176, rfl⟩
abbrev main_v118 : Ref sig .tc := ⟨.hbm, 177, rfl⟩
abbrev main_v119 : Ref sig .tc := ⟨.hbm, 178, rfl⟩
abbrev main_cst_26 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_27 : Ref sig .tc := ⟨.hbm, 183, rfl⟩
abbrev main_call6_v0 : Ref sig .tc := ⟨.hbm, 184, rfl⟩
abbrev main_call6_v1 : Ref sig .tc := ⟨.hbm, 185, rfl⟩
abbrev main_v123 : Ref sig .tc := ⟨.hbm, 186, rfl⟩
abbrev main_values : Ref sig .tc := ⟨.hbm, 187, rfl⟩
abbrev main_indices : Ref sig .tc := ⟨.hbm, 188, rfl⟩
abbrev main_v124 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_c_1 : Ref sig .tc := ⟨.hbm, 197, rfl⟩
abbrev main_call7_c_2 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_c_3 : Ref sig .tc := ⟨.hbm, 205, rfl⟩
abbrev main_call7_v11 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v125 : Ref sig .tc := ⟨.hbm, 211, rfl⟩
abbrev main_c : Ref sig .tc := ⟨.hbm, 212, rfl⟩
abbrev main_call8_v0 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v27 : BitVec 32 := Scalar.addi c0_i32 c16_i32
  let c1_i32 : BitVec 32 := 1#32
  ⟨c0_i32, v27, c1_i32⟩
def k0_off1 (k0_t1 : Fin k0_t1_loop.trips) : Fin 3 → Nat :=
  let c0_106 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v193 : Index := Scalar.indexCast v192
  let c0_107 : Index := 0#32
  ![0, v193.toNat, 0]
def k0_off2 (k0_t1 : Fin k0_t1_loop.trips) : Fin 3 → Nat :=
  let c0_108 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v196 : Index := Scalar.indexCast v192
  let c1_109 : Index := 1#32
  ![0, v196.toNat, 1]
def k0_off3 (k0_t1 : Fin k0_t1_loop.trips) : Fin 3 → Nat :=
  let c0_110 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v199 : Index := Scalar.indexCast v192
  let c2_111 : Index := 2#32
  ![0, v199.toNat, 2]
def k0_off4 (k0_t1 : Fin k0_t1_loop.trips) : Fin 3 → Nat :=
  let c0_112 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v202 : Index := Scalar.indexCast v192
  let c3_113 : Index := 3#32
  ![0, v202.toNat, 3]
def k0_off5 (k0_t1 : Fin k0_t1_loop.trips) : Fin 3 → Nat :=
  let c0_127 : Index := 0#32
  let c0_128 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v254 : Index := Scalar.indexCast v192
  ![0, 0, v254.toNat]
def k0_off6 (k0_t1 : Fin k0_t1_loop.trips) : Fin 3 → Nat :=
  let c0_129 : Index := 0#32
  let c1_130 : Index := 1#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v257 : Index := Scalar.indexCast v192
  ![0, 1, v257.toNat]
def k0_off7 (k0_t1 : Fin k0_t1_loop.trips) : Fin 3 → Nat :=
  let c0_131 : Index := 0#32
  let c2_132 : Index := 2#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v260 : Index := Scalar.indexCast v192
  ![0, 2, v260.toNat]
def k0_off8 (k0_t1 : Fin k0_t1_loop.trips) : Fin 3 → Nat :=
  let c0_133 : Index := 0#32
  let c3_134 : Index := 3#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v263 : Index := Scalar.indexCast v192
  ![0, 3, v263.toNat]
@[reducible] def k0_t2_loop : Scf.Loop 32 :=
  let c0_i32_146 : BitVec 32 := 0#32
  let c128_i32_147 : BitVec 32 := 128#32
  let v312 : BitVec 32 := Scalar.addi c0_i32_146 c128_i32_147
  let c1_i32_148 : BitVec 32 := 1#32
  ⟨c0_i32_146, v312, c1_i32_148⟩
def k0_off9 (k0_t2 : Fin k0_t2_loop.trips) : Fin 2 → Nat :=
  let c0_i32_146 : BitVec 32 := 0#32
  let c1_i32_148 : BitVec 32 := 1#32
  let arg8 : BitVec 32 := Scf.iv c0_i32_146 c1_i32_148 k0_t2
  let v318 : Index := Scalar.indexCast arg8
  let c0_151 : Index := 0#32
  ![v318.toNat, 0]
def k0_off10 (k0_t2 : Fin k0_t2_loop.trips) : Fin 2 → Nat :=
  let c0_i32_146 : BitVec 32 := 0#32
  let c1_i32_148 : BitVec 32 := 1#32
  let arg8 : BitVec 32 := Scf.iv c0_i32_146 c1_i32_148 k0_t2
  let v320 : Index := Scalar.indexCast arg8
  let c0_152 : Index := 0#32
  ![v320.toNat, 0]
def k0_off11 (k0_t1 : Fin k0_t1_loop.trips) : Fin 2 → Nat :=
  let c0_150 : Index := 0#32
  let c0_i32 : BitVec 32 := 0#32
  let c1_i32 : BitVec 32 := 1#32
  let arg7 : BitVec 32 := Scf.iv c0_i32 c1_i32 k0_t1
  let c128_i32_105 : BitVec 32 := 128#32
  let v192 : BitVec 32 := Scalar.muli arg7 c128_i32_105
  let v314 : Index := Scalar.indexCast v192
  ![0, v314.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x32x32x18 : Shape := ⟨4, ![4, 32, 32, 18]⟩
abbrev S4x32x32x36 : Shape := ⟨4, ![4, 32, 32, 36]⟩
abbrev S9216x4 : Shape := ⟨2, ![9216, 4]⟩
abbrev S4x32x32x9x2 : Shape := ⟨5, ![4, 32, 32, 9, 2]⟩
abbrev S_ : Shape := ⟨0, ![]⟩
abbrev S4x32x32x9 : Shape := ⟨4, ![4, 32, 32, 9]⟩
abbrev S4x32x32x9x1 : Shape := ⟨5, ![4, 32, 32, 9, 1]⟩
abbrev S4x9216 : Shape := ⟨2, ![4, 9216]⟩
abbrev S4x9216x4 : Shape := ⟨3, ![4, 9216, 4]⟩
abbrev S9216x1 : Shape := ⟨2, ![9216, 1]⟩
abbrev S9216 : Shape := ⟨1, ![9216]⟩
abbrev S4x9216x1 : Shape := ⟨3, ![4, 9216, 1]⟩
abbrev S1x9216 : Shape := ⟨2, ![1, 9216]⟩
abbrev S4x2000 : Shape := ⟨2, ![4, 2000]⟩
abbrev S4x2000x1 : Shape := ⟨3, ![4, 2000, 1]⟩
abbrev S1 : Shape := ⟨1, ![1]⟩
abbrev S1x1x1 : Shape := ⟨3, ![1, 1, 1]⟩
abbrev S4x2000x4 : Shape := ⟨3, ![4, 2000, 4]⟩
abbrev S4x1x2000 : Shape := ⟨3, ![4, 1, 2000]⟩
abbrev S4x2000x2000 : Shape := ⟨3, ![4, 2000, 2000]⟩
abbrev S2000 : Shape := ⟨1, ![2000]⟩
abbrev S1x2000 : Shape := ⟨2, ![1, 2000]⟩
abbrev S4 : Shape := ⟨1, ![4]⟩
abbrev S4x300 : Shape := ⟨2, ![4, 300]⟩
abbrev S4x300x1 : Shape := ⟨3, ![4, 300, 1]⟩
abbrev S4x300x4 : Shape := ⟨3, ![4, 300, 4]⟩
abbrev S4x1x1 : Shape := ⟨3, ![4, 1, 1]⟩
abbrev S4x300x5 : Shape := ⟨3, ![4, 300, 5]⟩
abbrev S1200x5 : Shape := ⟨2, ![1200, 5]⟩

abbrev nBuf : Space → Nat
  | .hbm => 381
  | .vmem => 0
  | .smem => 0
  | _ => 0

abbrev hbmTy0_0 (i : Nat) : BufTy := match i % 128 with
  | 0 => ⟨S4x32x32x18, .f32⟩
  | 1 => ⟨S4x32x32x36, .f32⟩
  | 2 => ⟨S9216x4, .f32⟩
  | 3 => ⟨S4x32x32x9x2, .f32⟩
  | 4 => ⟨S_, .f32⟩
  | 5 => ⟨S4x32x32x9, .f32⟩
  | 6 => ⟨S_, .f32⟩
  | 7 => ⟨S4x32x32x9, .f32⟩
  | 8 => ⟨S4x32x32x9, .f32⟩
  | 9 => ⟨S4x32x32x9x1, .f32⟩
  | 10 => ⟨S4x32x32x9x2, .f32⟩
  | 11 => ⟨S4x32x32x9x2, .f32⟩
  | 12 => ⟨S4x32x32x9x2, .f32⟩
  | 13 => ⟨S_, .f32⟩
  | 14 => ⟨S4x32x32x9, .f32⟩
  | 15 => ⟨S4x32x32x9x1, .f32⟩
  | 16 => ⟨S4x32x32x9x2, .f32⟩
  | 17 => ⟨S4x32x32x9x2, .f32⟩
  | 18 => ⟨S4x32x32x9x1, .f32⟩
  | 19 => ⟨S4x32x32x9, .f32⟩
  | 20 => ⟨S4x9216, .f32⟩
  | 21 => ⟨S4x9216x4, .f32⟩
  | 22 => ⟨S9216x1, .f32⟩
  | 23 => ⟨S9216, .f32⟩
  | 24 => ⟨S9216x1, .f32⟩
  | 25 => ⟨S9216, .f32⟩
  | 26 => ⟨S9216, .f32⟩
  | 27 => ⟨S_, .f32⟩
  | 28 => ⟨S9216, .f32⟩
  | 29 => ⟨S9216, .f32⟩
  | 30 => ⟨S9216x1, .f32⟩
  | 31 => ⟨S9216, .f32⟩
  | 32 => ⟨S9216x1, .f32⟩
  | 33 => ⟨S9216, .f32⟩
  | 34 => ⟨S9216, .f32⟩
  | 35 => ⟨S_, .f32⟩
  | 36 => ⟨S9216, .f32⟩
  | 37 => ⟨S9216, .f32⟩
  | 38 => ⟨S9216x1, .f32⟩
  | 39 => ⟨S9216, .f32⟩
  | 40 => ⟨S_, .f32⟩
  | 41 => ⟨S9216, .f32⟩
  | 42 => ⟨S9216, .f32⟩
  | 43 => ⟨S9216, .f32⟩
  | 44 => ⟨S9216x1, .f32⟩
  | 45 => ⟨S9216, .f32⟩
  | 46 => ⟨S_, .f32⟩
  | 47 => ⟨S9216, .f32⟩
  | 48 => ⟨S9216, .f32⟩
  | 49 => ⟨S9216, .f32⟩
  | 50 => ⟨S4x9216x1, .f32⟩
  | 51 => ⟨S4x9216, .f32⟩
  | 52 => ⟨S4x9216x1, .f32⟩
  | 53 => ⟨S4x9216, .f32⟩
  | 54 => ⟨S4x9216x1, .f32⟩
  | 55 => ⟨S4x9216, .f32⟩
  | 56 => ⟨S4x9216x1, .f32⟩
  | 57 => ⟨S4x9216, .f32⟩
  | 58 => ⟨S1x9216, .f32⟩
  | 59 => ⟨S4x9216, .f32⟩
  | 60 => ⟨S4x9216, .f32⟩
  | 61 => ⟨S1x9216, .f32⟩
  | 62 => ⟨S4x9216, .f32⟩
  | 63 => ⟨S4x9216, .f32⟩
  | 64 => ⟨S1x9216, .f32⟩
  | 65 => ⟨S4x9216, .f32⟩
  | 66 => ⟨S4x9216, .f32⟩
  | 67 => ⟨S1x9216, .f32⟩
  | 68 => ⟨S4x9216, .f32⟩
  | 69 => ⟨S4x9216, .f32⟩
  | 70 => ⟨S_, .f32⟩
  | 71 => ⟨S_, .f32⟩
  | 72 => ⟨S_, .f32⟩
  | 73 => ⟨S4x9216, .f32⟩
  | 74 => ⟨S4x9216, .f32⟩
  | 75 => ⟨S_, .f32⟩
  | 76 => ⟨S4x9216, .f32⟩
  | 77 => ⟨S4x9216, .f32⟩
  | 78 => ⟨S4x9216, .f32⟩
  | 79 => ⟨S1x9216, .f32⟩
  | 80 => ⟨S4x9216, .f32⟩
  | 81 => ⟨S4x9216, .f32⟩
  | 82 => ⟨S_, .f32⟩
  | 83 => ⟨S_, .f32⟩
  | 84 => ⟨S_, .f32⟩
  | 85 => ⟨S4x9216, .f32⟩
  | 86 => ⟨S4x9216, .f32⟩
  | 87 => ⟨S_, .f32⟩
  | 88 => ⟨S4x9216, .f32⟩
  | 89 => ⟨S4x9216, .f32⟩
  | 90 => ⟨S4x9216, .f32⟩
  | 91 => ⟨S1x9216, .f32⟩
  | 92 => ⟨S4x9216, .f32⟩
  | 93 => ⟨S4x9216, .f32⟩
  | 94 => ⟨S_, .f32⟩
  | 95 => ⟨S4x9216, .f32⟩
  | 96 => ⟨S4x9216, .f32⟩
  | 97 => ⟨S4x9216, .f32⟩
  | 98 => ⟨S_, .f32⟩
  | 99 => ⟨S4x9216, .f32⟩
  | 100 => ⟨S4x9216, .f32⟩
  | 101 => ⟨S4x9216, .f32⟩
  | 102 => ⟨S_, .f32⟩
  | 103 => ⟨S4x9216, .f32⟩
  | 104 => ⟨S4x9216, .f32⟩
  | 105 => ⟨S4x9216, .f32⟩
  | 106 => ⟨S_, .f32⟩
  | 107 => ⟨S4x9216, .f32⟩
  | 108 => ⟨S4x9216, .f32⟩
  | 109 => ⟨S4x9216, .f32⟩
  | 110 => ⟨S4x9216x1, .f32⟩
  | 111 => ⟨S4x9216x1, .f32⟩
  | 112 => ⟨S4x9216x1, .f32⟩
  | 113 => ⟨S4x9216x1, .f32⟩
  | 114 => ⟨S4x9216x4, .f32⟩
  | 115 => ⟨S4x9216x1, .f32⟩
  | 116 => ⟨S4x9216, .f32⟩
  | 117 => ⟨S_, .f32⟩
  | 118 => ⟨S_, .f32⟩
  | 119 => ⟨S_, .f32⟩
  | 120 => ⟨S4x9216, .f32⟩
  | 121 => ⟨S4x9216, .f32⟩
  | 122 => ⟨S_, .f32⟩
  | 123 => ⟨S4x9216, .f32⟩
  | 124 => ⟨S4x9216, .f32⟩
  | 125 => ⟨S4x9216x1, .f32⟩
  | 126 => ⟨S4x9216, .f32⟩
  | 127 => ⟨S_, .f32⟩
  | _ => ⟨S4x32x32x18, .f32⟩

abbrev hbmTy0_1 (i : Nat) : BufTy := match i % 128 with
  | 0 => ⟨S_, .f32⟩
  | 1 => ⟨S_, .f32⟩
  | 2 => ⟨S4x9216, .f32⟩
  | 3 => ⟨S4x9216, .f32⟩
  | 4 => ⟨S_, .f32⟩
  | 5 => ⟨S4x9216, .f32⟩
  | 6 => ⟨S4x9216, .f32⟩
  | 7 => ⟨S4x9216x1, .f32⟩
  | 8 => ⟨S4x9216, .f32⟩
  | 9 => ⟨S_, .f32⟩
  | 10 => ⟨S_, .f32⟩
  | 11 => ⟨S_, .f32⟩
  | 12 => ⟨S4x9216, .f32⟩
  | 13 => ⟨S4x9216, .f32⟩
  | 14 => ⟨S_, .f32⟩
  | 15 => ⟨S4x9216, .f32⟩
  | 16 => ⟨S4x9216, .f32⟩
  | 17 => ⟨S4x9216x1, .f32⟩
  | 18 => ⟨S4x9216, .f32⟩
  | 19 => ⟨S_, .f32⟩
  | 20 => ⟨S_, .f32⟩
  | 21 => ⟨S_, .f32⟩
  | 22 => ⟨S4x9216, .f32⟩
  | 23 => ⟨S4x9216, .f32⟩
  | 24 => ⟨S_, .f32⟩
  | 25 => ⟨S4x9216, .f32⟩
  | 26 => ⟨S4x9216, .f32⟩
  | 27 => ⟨S4x9216x1, .f32⟩
  | 28 => ⟨S4x9216x1, .f32⟩
  | 29 => ⟨S4x9216x1, .f32⟩
  | 30 => ⟨S4x9216x1, .f32⟩
  | 31 => ⟨S4x9216x4, .f32⟩
  | 32 => ⟨S4x9216x1, .f32⟩
  | 33 => ⟨S4x9216, .f32⟩
  | 34 => ⟨S4x9216x1, .f32⟩
  | 35 => ⟨S4x9216, .f32⟩
  | 36 => ⟨S4x9216, .f32⟩
  | 37 => ⟨S_, .f32⟩
  | 38 => ⟨S4x9216, .f32⟩
  | 39 => ⟨S4x9216, .f32⟩
  | 40 => ⟨S4x9216x1, .f32⟩
  | 41 => ⟨S4x9216, .f32⟩
  | 42 => ⟨S4x9216x1, .f32⟩
  | 43 => ⟨S4x9216, .f32⟩
  | 44 => ⟨S4x9216, .f32⟩
  | 45 => ⟨S_, .f32⟩
  | 46 => ⟨S4x9216, .f32⟩
  | 47 => ⟨S4x9216, .f32⟩
  | 48 => ⟨S_, .f32⟩
  | 49 => ⟨S4x9216, .f32⟩
  | 50 => ⟨S4x9216, .i1⟩
  | 51 => ⟨S_, .f32⟩
  | 52 => ⟨S4x9216, .f32⟩
  | 53 => ⟨S4x9216, .i1⟩
  | 54 => ⟨S4x9216, .i1⟩
  | 55 => ⟨S_, .f32⟩
  | 56 => ⟨S_, .f32⟩
  | 57 => ⟨S4x9216, .f32⟩
  | 58 => ⟨S4x9216, .f32⟩
  | 59 => ⟨S4x2000, .f32⟩
  | 60 => ⟨S4x2000, .i32⟩
  | 61 => ⟨S4x2000x1, .i32⟩
  | 62 => ⟨S_, .i32⟩
  | 63 => ⟨S4x2000x1, .i32⟩
  | 64 => ⟨S4x2000x1, .i1⟩
  | 65 => ⟨S_, .i32⟩
  | 66 => ⟨S4x2000x1, .i32⟩
  | 67 => ⟨S4x2000x1, .i32⟩
  | 68 => ⟨S4x2000x1, .i32⟩
  | 69 => ⟨S1, .i32⟩
  | 70 => ⟨S_, .i32⟩
  | 71 => ⟨S4x2000x1, .i32⟩
  | 72 => ⟨S4x2000x1, .i1⟩
  | 73 => ⟨S1x1x1, .i32⟩
  | 74 => ⟨S4x2000x1, .i32⟩
  | 75 => ⟨S4x2000x1, .i1⟩
  | 76 => ⟨S4x2000x1, .i1⟩
  | 77 => ⟨S_, .i1⟩
  | 78 => ⟨S4x2000, .i1⟩
  | 79 => ⟨S4x2000x4, .f32⟩
  | 80 => ⟨S4x2000x4, .i1⟩
  | 81 => ⟨S_, .f32⟩
  | 82 => ⟨S4x2000x4, .f32⟩
  | 83 => ⟨S4x2000x4, .f32⟩
  | 84 => ⟨S4x2000x1, .f32⟩
  | 85 => ⟨S4x2000, .f32⟩
  | 86 => ⟨S4x2000x1, .f32⟩
  | 87 => ⟨S4x2000, .f32⟩
  | 88 => ⟨S4x2000x1, .f32⟩
  | 89 => ⟨S4x2000, .f32⟩
  | 90 => ⟨S4x2000x1, .f32⟩
  | 91 => ⟨S4x2000, .f32⟩
  | 92 => ⟨S4x2000, .f32⟩
  | 93 => ⟨S_, .f32⟩
  | 94 => ⟨S4x2000, .f32⟩
  | 95 => ⟨S4x2000, .f32⟩
  | 96 => ⟨S4x2000, .f32⟩
  | 97 => ⟨S_, .f32⟩
  | 98 => ⟨S4x2000, .f32⟩
  | 99 => ⟨S4x2000, .f32⟩
  | 100 => ⟨S4x2000, .f32⟩
  | 101 => ⟨S4x2000x1, .f32⟩
  | 102 => ⟨S4x1x2000, .f32⟩
  | 103 => ⟨S4x2000x2000, .f32⟩
  | 104 => ⟨S4x2000x2000, .f32⟩
  | 105 => ⟨S4x2000x2000, .f32⟩
  | 106 => ⟨S4x2000x1, .f32⟩
  | 107 => ⟨S4x1x2000, .f32⟩
  | 108 => ⟨S4x2000x2000, .f32⟩
  | 109 => ⟨S4x2000x2000, .f32⟩
  | 110 => ⟨S4x2000x2000, .f32⟩
  | 111 => ⟨S4x2000x1, .f32⟩
  | 112 => ⟨S4x1x2000, .f32⟩
  | 113 => ⟨S4x2000x2000, .f32⟩
  | 114 => ⟨S4x2000x2000, .f32⟩
  | 115 => ⟨S4x2000x2000, .f32⟩
  | 116 => ⟨S4x2000x1, .f32⟩
  | 117 => ⟨S4x1x2000, .f32⟩
  | 118 => ⟨S4x2000x2000, .f32⟩
  | 119 => ⟨S4x2000x2000, .f32⟩
  | 120 => ⟨S4x2000x2000, .f32⟩
  | 121 => ⟨S4x2000x2000, .f32⟩
  | 122 => ⟨S_, .f32⟩
  | 123 => ⟨S4x2000x2000, .f32⟩
  | 124 => ⟨S4x2000x2000, .f32⟩
  | 125 => ⟨S_, .f32⟩
  | 126 => ⟨S_, .f32⟩
  | 127 => ⟨S4x2000x2000, .f32⟩
  | _ => ⟨S4x32x32x18, .f32⟩

abbrev hbmTy0_2 (i : Nat) : BufTy := match i % 128 with
  | 0 => ⟨S4x2000x2000, .f32⟩
  | 1 => ⟨S4x2000x2000, .f32⟩
  | 2 => ⟨S_, .f32⟩
  | 3 => ⟨S4x2000x2000, .f32⟩
  | 4 => ⟨S4x2000x2000, .f32⟩
  | 5 => ⟨S_, .f32⟩
  | 6 => ⟨S_, .f32⟩
  | 7 => ⟨S4x2000x2000, .f32⟩
  | 8 => ⟨S4x2000x2000, .f32⟩
  | 9 => ⟨S4x2000x2000, .f32⟩
  | 10 => ⟨S4x2000x1, .f32⟩
  | 11 => ⟨S4x1x2000, .f32⟩
  | 12 => ⟨S4x2000x2000, .f32⟩
  | 13 => ⟨S4x2000x2000, .f32⟩
  | 14 => ⟨S4x2000x2000, .f32⟩
  | 15 => ⟨S4x2000x2000, .f32⟩
  | 16 => ⟨S_, .f32⟩
  | 17 => ⟨S4x2000x2000, .f32⟩
  | 18 => ⟨S4x2000x2000, .f32⟩
  | 19 => ⟨S4x2000x2000, .f32⟩
  | 20 => ⟨S2000, .i32⟩
  | 21 => ⟨S_, .i1⟩
  | 22 => ⟨S4x2000, .i1⟩
  | 23 => ⟨S_, .i32⟩
  | 24 => ⟨S_, .i32⟩
  | 25 => ⟨S4x2000x2000, .f32⟩
  | 26 => ⟨S2000, .i32⟩
  | 27 => ⟨S_, .i32⟩
  | 28 => ⟨S_, .i32⟩
  | 29 => ⟨S4x2000, .i1⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S4x1x2000, .f32⟩
  | 57 => ⟨S4x2000, .f32⟩
  | 58 => ⟨S_, .f32⟩
  | 59 => ⟨S4x2000, .f32⟩
  | 60 => ⟨S4x2000, .i1⟩
  | 61 => ⟨S4x2000, .i1⟩
  | 62 => ⟨S_, .i32⟩
  | 63 => ⟨S2000, .i32⟩
  | 64 => ⟨S2000, .i1⟩
  | 65 => ⟨S1x2000, .i1⟩
  | 66 => ⟨S4x2000, .i1⟩
  | 67 => ⟨S4x2000, .i1⟩
  | 68 => ⟨S_, .i1⟩
  | 69 => ⟨S4, .i1⟩
  | 70 => ⟨S4, .i1⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1, .i32⟩
  | 78 => ⟨S4x2000, .i1⟩
  | 79 => ⟨S_, .i32⟩
  | 80 => ⟨S_, .i32⟩
  | 81 => ⟨S2000, .i32⟩
  | 82 => ⟨S_, .i32⟩
  | 83 => ⟨S2000, .i32⟩
  | 84 => ⟨S2000, .i32⟩
  | 85 => ⟨S2000, .f32⟩
  | 86 => ⟨S2000, .i32⟩
  | 87 => ⟨S2000, .f32⟩
  | 88 => ⟨S_, .f32⟩
  | 89 => ⟨S2000, .f32⟩
  | 90 => ⟨S2000, .f32⟩
  | 91 => ⟨S2000, .f32⟩
  | 92 => ⟨S4x2000, .f32⟩
  | 93 => ⟨S4x2000, .f32⟩
  | 94 => ⟨S4x2000, .f32⟩
  | 95 => ⟨S4x300, .f32⟩
  | 96 => ⟨S4x300, .i32⟩
  | 97 => ⟨S4x300x1, .i32⟩
  | 98 => ⟨S_, .i32⟩
  | 99 => ⟨S4x300x1, .i32⟩
  | 100 => ⟨S4x300x1, .i1⟩
  | 101 => ⟨S_, .i32⟩
  | 102 => ⟨S4x300x1, .i32⟩
  | 103 => ⟨S4x300x1, .i32⟩
  | 104 => ⟨S4x300x1, .i32⟩
  | 105 => ⟨S1, .i32⟩
  | 106 => ⟨S_, .i32⟩
  | 107 => ⟨S4x300x1, .i32⟩
  | 108 => ⟨S4x300x1, .i1⟩
  | 109 => ⟨S1x1x1, .i32⟩
  | 110 => ⟨S4x300x1, .i32⟩
  | 111 => ⟨S4x300x1, .i1⟩
  | 112 => ⟨S4x300x1, .i1⟩
  | 113 => ⟨S_, .i1⟩
  | 114 => ⟨S4x300, .i1⟩
  | 115 => ⟨S4x300x4, .f32⟩
  | 116 => ⟨S4x300x4, .i1⟩
  | 117 => ⟨S_, .f32⟩
  | 118 => ⟨S4x300x4, .f32⟩
  | 119 => ⟨S4x300x4, .f32⟩
  | 120 => ⟨S4, .f32⟩
  | 121 => ⟨S4x1x1, .f32⟩
  | 122 => ⟨S4x300x1, .f32⟩
  | 123 => ⟨S4x300x5, .f32⟩
  | 124 => ⟨S1200x5, .f32⟩
  | _ => ⟨S4x32x32x18, .f32⟩

abbrev hbmTy (i : Nat) : BufTy := match i / 128 with
  | 0 => hbmTy0_0 i
  | 1 => hbmTy0_1 i
  | 2 => hbmTy0_2 i
  | _ => ⟨S4x32x32x18, .f32⟩

abbrev bufTy : (tb : Table) → Fin (tcTables nBuf tb) → BufTy
  | .hbm, ⟨i, _⟩ => hbmTy i
  | _, _ => ⟨S4x32x32x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_7 : Ref sig .tc := ⟨.hbm, 70, rfl⟩
abbrev main_cst_8 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_cst_16 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_cst_18 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_cst_20 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_21 : Ref sig .tc := ⟨.hbm, 147, rfl⟩
abbrev main_cst_22 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_23 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_24 : Ref sig .tc := ⟨.hbm, 173, rfl⟩
abbrev main_v116 : Ref sig .tc := ⟨.hbm, 174, rfl⟩
abbrev main_v117 : Ref sig .tc := ⟨.hbm, 175, rfl⟩
abbrev main_cst_25 : Ref sig .tc := ⟨.hbm, 176, rfl⟩
abbrev main_v118 : Ref sig .tc := ⟨.hbm, 177, rfl⟩
abbrev main_v119 : Ref sig .tc := ⟨.hbm, 178, rfl⟩
abbrev main_cst_26 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_27 : Ref sig .tc := ⟨.hbm, 183, rfl⟩
abbrev main_call6_v0 : Ref sig .tc := ⟨.hbm, 184, rfl⟩
abbrev main_call6_v1 : Ref sig .tc := ⟨.hbm, 185, rfl⟩
abbrev main_v123 : Ref sig .tc := ⟨.hbm, 186, rfl⟩
abbrev main_values : Ref sig .tc := ⟨.hbm, 187, rfl⟩
abbrev main_indices : Ref sig .tc := ⟨.hbm, 188, rfl⟩
abbrev main_v124 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_c_1 : Ref sig .tc := ⟨.hbm, 197, rfl⟩
abbrev main_call7_c_2 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_c_3 : Ref sig .tc := ⟨.hbm, 205, rfl⟩
abbrev main_call7_v11 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_cst_28 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_cst_29 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_cst_30 : Ref sig .tc := ⟨.hbm, 250, rfl⟩
abbrev main_v162 : Ref sig .tc := ⟨.hbm, 251, rfl⟩
abbrev main_v163 : Ref sig .tc := ⟨.hbm, 252, rfl⟩
abbrev main_cst_31 : Ref sig .tc := ⟨.hbm, 253, rfl⟩
abbrev main_call8_v0 : Ref sig .tc := ⟨.hbm, 254, rfl⟩
abbrev main_call8_v1 : Ref sig .tc := ⟨.hbm, 255, rfl⟩
abbrev main_v164 : Ref sig .tc := ⟨.hbm, 256, rfl⟩
abbrev main_v165 : Ref sig .tc := ⟨.hbm, 257, rfl⟩
abbrev main_cst_32 : Ref sig .tc := ⟨.hbm, 258, rfl⟩
abbrev main_v166 : Ref sig .tc := ⟨.hbm, 259, rfl⟩
abbrev main_v167 : Ref sig .tc := ⟨.hbm, 260, rfl⟩
abbrev main_cst_33 : Ref sig .tc := ⟨.hbm, 261, rfl⟩
abbrev main_call9_v0 : Ref sig .tc := ⟨.hbm, 262, rfl⟩
abbrev main_call9_v1 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_cst_34 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_c : Ref sig .tc := ⟨.hbm, 277, rfl⟩
abbrev main_v180 : Ref sig .tc := ⟨.hbm, 278, rfl⟩
abbrev main_c_35 : Ref sig .tc := ⟨.hbm, 279, rfl⟩
abbrev main_c_36 : Ref sig .tc := ⟨.hbm, 280, rfl⟩
abbrev main_v181_0 : Ref sig .tc := ⟨.hbm, 281, rfl⟩
abbrev main_v181_1 : Ref sig .tc := ⟨.hbm, 282, rfl⟩
abbrev main_v181_2 : Ref sig .tc := ⟨.hbm, 283, rfl⟩
abbrev main_v181_3 : Ref sig .tc := ⟨.hbm, 284, rfl⟩
abbrev main_v181_4 : Ref sig .tc := ⟨.hbm, 285, rfl⟩
abbrev main_while0c_c_45 : Ref sig .tc := ⟨.hbm, 286, rfl⟩
abbrev main_while0c_v199 : Ref sig .tc := ⟨.hbm, 287, rfl⟩
abbrev main_while0b_c_45 : Ref sig .tc := ⟨.hbm, 288, rfl⟩
abbrev main_while0b_v199 : Ref sig .tc := ⟨.hbm, 289, rfl⟩
abbrev main_while0b_v200 : Ref sig .tc := ⟨.hbm, 290, rfl⟩
abbrev main_while0b_c_46 : Ref sig .tc := ⟨.hbm, 291, rfl⟩
abbrev main_while0b_c_47 : Ref sig .tc := ⟨.hbm, 292, rfl⟩
abbrev main_while0b_v201 : Ref sig .tc := ⟨.hbm, 293, rfl⟩
abbrev main_while0b_c_48 : Ref sig .tc := ⟨.hbm, 294, rfl⟩
abbrev main_while0b_c_49 : Ref sig .tc := ⟨.hbm, 295, rfl⟩
abbrev main_while0b_v202 : Ref sig .tc := ⟨.hbm, 296, rfl⟩
abbrev main_while0b_c_50 : Ref sig .tc := ⟨.hbm, 297, rfl⟩
abbrev main_while0b_v203 : Ref sig .tc := ⟨.hbm, 298, rfl⟩
abbrev main_while0b_c_51 : Ref sig .tc := ⟨.hbm, 299, rfl⟩
abbrev main_while0b_v204 : Ref sig .tc := ⟨.hbm, 300, rfl⟩
abbrev main_while0b_c_52 : Ref sig .tc := ⟨.hbm, 301, rfl⟩
abbrev main_while0b_v205 : Ref sig .tc := ⟨.hbm, 302, rfl⟩
abbrev main_while0b_v206 : Ref sig .tc := ⟨.hbm, 303, rfl⟩
abbrev main_while0b_c_53 : Ref sig .tc := ⟨.hbm, 304, rfl⟩
abbrev main_while0b_c_54 : Ref sig .tc := ⟨.hbm, 305, rfl⟩
abbrev main_while0b_v207 : Ref sig .tc := ⟨.hbm, 306, rfl⟩
abbrev main_while0b_c_55 : Ref sig .tc := ⟨.hbm, 307, rfl⟩
abbrev main_while0b_c_56 : Ref sig .tc := ⟨.hbm, 308, rfl⟩
abbrev main_while0b_v208 : Ref sig .tc := ⟨.hbm, 309, rfl⟩
abbrev main_while0b_c_57 : Ref sig .tc := ⟨.hbm, 310, rfl⟩
abbrev main_while0b_v209 : Ref sig .tc := ⟨.hbm, 311, rfl⟩
abbrev main_while0b_v210 : Ref sig .tc := ⟨.hbm, 312, rfl⟩
abbrev main_while0b_v211 : Ref sig .tc := ⟨.hbm, 313, rfl⟩
abbrev main_while0b_cst_58 : Ref sig .tc := ⟨.hbm, 314, rfl⟩
abbrev main_while0b_v212 : Ref sig .tc := ⟨.hbm, 315, rfl⟩
abbrev main_while0b_v213 : Ref sig .tc := ⟨.hbm, 316, rfl⟩
abbrev main_while0b_v214 : Ref sig .tc := ⟨.hbm, 317, rfl⟩
abbrev main_while0b_v215 : Ref sig .tc := ⟨.hbm, 318, rfl⟩
abbrev main_while0b_v216 : Ref sig .tc := ⟨.hbm, 319, rfl⟩
abbrev main_while0b_v217 : Ref sig .tc := ⟨.hbm, 320, rfl⟩
abbrev main_while0b_v218 : Ref sig .tc := ⟨.hbm, 321, rfl⟩
abbrev main_while0b_v219 : Ref sig .tc := ⟨.hbm, 322, rfl⟩
abbrev main_while0b_v220 : Ref sig .tc := ⟨.hbm, 323, rfl⟩
abbrev main_while0b_c_59 : Ref sig .tc := ⟨.hbm, 324, rfl⟩
abbrev main_while0b_v221 : Ref sig .tc := ⟨.hbm, 325, rfl⟩
abbrev main_while0b_v222 : Ref sig .tc := ⟨.hbm, 326, rfl⟩
abbrev main_while0b_c_60 : Ref sig .tc := ⟨.hbm, 327, rfl⟩
abbrev main_while0b_v223 : Ref sig .tc := ⟨.hbm, 328, rfl⟩
abbrev main_while0b_c_61 : Ref sig .tc := ⟨.hbm, 329, rfl⟩
abbrev main_while0b_v224 : Ref sig .tc := ⟨.hbm, 330, rfl⟩
abbrev main_while0b_v225 : Ref sig .tc := ⟨.hbm, 331, rfl⟩
abbrev main_while0b_v226 : Ref sig .tc := ⟨.hbm, 332, rfl⟩
abbrev main_while0b_v227 : Ref sig .tc := ⟨.hbm, 333, rfl⟩
abbrev main_while0b_v228 : Ref sig .tc := ⟨.hbm, 334, rfl⟩
abbrev main_while0b_c_62 : Ref sig .tc := ⟨.hbm, 335, rfl⟩
abbrev main_while0b_v229 : Ref sig .tc := ⟨.hbm, 336, rfl⟩
abbrev main_v182 : Ref sig .tc := ⟨.hbm, 337, rfl⟩
abbrev main_c_37 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_cst_38 : Ref sig .tc := ⟨.hbm, 344, rfl⟩
abbrev main_v188 : Ref sig .tc := ⟨.hbm, 345, rfl⟩
abbrev main_v189 : Ref sig .tc := ⟨.hbm, 346, rfl⟩
abbrev main_v190 : Ref sig .tc := ⟨.hbm, 347, rfl⟩
abbrev main_call10_v0 : Ref sig .tc := ⟨.hbm, 348, rfl⟩
abbrev main_call10_v1 : Ref sig .tc := ⟨.hbm, 349, rfl⟩
abbrev main_v191 : Ref sig .tc := ⟨.hbm, 350, rfl⟩
abbrev main_values_39 : Ref sig .tc := ⟨.hbm, 351, rfl⟩
abbrev main_indices_40 : Ref sig .tc := ⟨.hbm, 352, rfl⟩
abbrev main_v192 : Ref sig .tc := ⟨.hbm, 353, rfl⟩
abbrev main_call11_c : Ref sig .tc := ⟨.hbm, 354, rfl⟩
abbrev main_call11_v0 : Ref sig .tc := ⟨.hbm, 355, rfl⟩
abbrev main_call11_v1 : Ref sig .tc := ⟨.hbm, 356, rfl⟩
abbrev main_call11_c_0 : Ref sig .tc := ⟨.hbm, 357, rfl⟩
abbrev main_call11_v2 : Ref sig .tc := ⟨.hbm, 358, rfl⟩
abbrev main_call11_v3 : Ref sig .tc := ⟨.hbm, 359, rfl⟩
abbrev main_call11_v4 : Ref sig .tc := ⟨.hbm, 360, rfl⟩
abbrev main_call11_c_1 : Ref sig .tc := ⟨.hbm, 361, rfl⟩
abbrev main_call11_c_2 : Ref sig .tc := ⟨.hbm, 362, rfl⟩
abbrev main_call11_v5 : Ref sig .tc := ⟨.hbm, 363, rfl⟩
abbrev main_call11_v6 : Ref sig .tc := ⟨.hbm, 364, rfl⟩
abbrev main_call11_v7 : Ref sig .tc := ⟨.hbm, 365, rfl⟩
abbrev main_call11_v8 : Ref sig .tc := ⟨.hbm, 366, rfl⟩
abbrev main_call11_v9 : Ref sig .tc := ⟨.hbm, 367, rfl⟩
abbrev main_call11_v10 : Ref sig .tc := ⟨.hbm, 368, rfl⟩
abbrev main_call11_c_3 : Ref sig .tc := ⟨.hbm, 369, rfl⟩
abbrev main_call11_v11 : Ref sig .tc := ⟨.hbm, 370, rfl⟩
abbrev main_call11_v12 : Ref sig .tc := ⟨.hbm, 371, rfl⟩
abbrev main_call11_v13 : Ref sig .tc := ⟨.hbm, 372, rfl⟩
abbrev main_call11_cst : Ref sig .tc := ⟨.hbm, 373, rfl⟩
abbrev main_call11_v14 : Ref sig .tc := ⟨.hbm, 374, rfl⟩
abbrev main_v193 : Ref sig .tc := ⟨.hbm, 375, rfl⟩
abbrev main_v194 : Ref sig .tc := ⟨.hbm, 376, rfl⟩
abbrev main_v195 : Ref sig .tc := ⟨.hbm, 377, rfl⟩
abbrev main_v196 : Ref sig .tc := ⟨.hbm, 378, rfl⟩
abbrev main_v197 : Ref sig .tc := ⟨.hbm, 379, rfl⟩
abbrev main_v198 : Ref sig .tc := ⟨.hbm, 380, rfl⟩

abbrev nD : Nat := 1
abbrev τ : Topo := Topo.v7x

variable {F : FTy → Type} [FloatOps F]

abbrev main_while0_count : Scf.Loop 32 := ⟨0#32, 2000#32, 1#32⟩
-- ==== Proof.TripIdeal.lean ====
/-
  The kernel's outer loop, one trip at a time: what a block of 128 rows does to the keep vector and to the two scratch
  buffers, as the piece lists a symbolic run finds.
-/
module

public import proofs.«01_k».proof.Proof.Gen.KernelIdeal.Loops
public import proofs.«01_k».proof.Proof.Gen.KernelIdeal.Points
public import proofs.«01_k».proof.Proof.Gen.KernelIdeal.Frame
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S1x2048x4 .f32) (harg1 : arg1.IsWhole) (arg2 : Memref sig .tc .vmem S1x4x2048 .f32) (harg2 : arg2.IsWhole) (arg3 : Memref sig .tc .vmem S1x384x4 .f32) (harg3 : arg3.IsWhole) (arg4 : Memref sig .tc .vmem S1x2048 .f32) (harg4 : arg4.IsWhole) (arg5 : Memref sig .tc .vmem S128x128 .f32) (harg5 : arg5.IsWhole) (arg6 : Memref sig .tc .vmem S128x1 .f32) (harg6 : arg6.IsWhole)

/-- The buffers one trip of the outer loop touches: the boxes and their columns, which it reads, the keep vector, which
    it writes a block of, and the two scratch buffers, which it fills anew whatever they held. -/
abbrev Trip (X1 : BufTy.Contents (Elt F) arg1.view.ty) (X2 : BufTy.Contents (Elt F) arg2.view.ty) (f4 : BufTy.Contents (Elt F) arg4.view.ty) : sProp 𝕄 :=
  iprop((arg1.view.loc (c : Thread nD τ) ↦[arg1.view.set]{fullShare} X1) ∗ (arg2.view.loc (c : Thread nD τ) ↦[arg2.view.set]{fullShare} X2)
    ∗ (arg4.view.loc (c : Thread nD τ) ↦[arg4.view.set]{fullShare} f4)
    ∗ (∃ f5, arg5.view.loc (c : Thread nD τ) ↦[arg5.view.set]{fullShare} f5)
    ∗ (∃ f6, arg6.view.loc (c : Thread nD τ) ↦[arg6.view.set]{fullShare} f6))

/-- One trip of the outer loop at a symbolic block `k`: the piece of the keep vector it writes is what the run finds. -/
@[irreducible] def trip (v0 v2 v4 v6 : Vec F S1x1x2048 .f32) (X1 : BufTy.Contents (Elt F) arg1.view.ty) (X2 : BufTy.Contents (Elt F) arg2.view.ty) (k : Fin k0_t1_loop.trips)
    (f4 : BufTy.Contents (Elt F) arg4.view.ty) :
    { L4 : List (View.Piece (Elt F) S1x2048 .f32) //
      ∀ (E : Set ℕ),
      Trip (F := F) c arg1 arg2 arg4 arg5 arg6 X1 X2 f4
      ⊢ wp frame (wpE (defs₀ (F := F)) Variants.none (c : Thread nD τ) none) E
          (k0_t1_body (F := F) i arg1 harg1 arg2 harg2 arg3 harg3 arg4 harg4 arg5 harg5 arg6 harg6 v0 v2 v4 v6 k ())
          (fun _ => Trip (F := F) c arg1 arg2 arg4 arg5 arg6 X1 X2 (arg4.view.writes (Elt F) f4 L4)) } := by
  refine ⟨?_, fun E => ?run⟩
  case run =>
    unfold k0_t1_body
    simp only [k0_part1_eq_skeleton, k0_part2_eq_skeleton]
    unfold k0_part1_skel k0_part2_skel
    iintro ⟨H1, H2, H4, ⟨%f5, H5⟩, ⟨%f6, H6⟩⟩
    sl_exec
    sl_step
    isplitl [H1]; · iexact H1
    isplitl [H2]; · iexact H2
    isplitl [H4]; · iexact H4
    isplitl [H5]; · iexists _; iexact H5
    iexists _; iexact H6

/-- The pieces the blocks before `k` wrote into the keep vector, the latest first. -/
def pb (v0 v2 v4 v6 : Vec F S1x1x2048 .f32) (X1 : BufTy.Contents (Elt F) arg1.view.ty) (X2 : BufTy.Contents (Elt F) arg2.view.ty)
    (G4 : BufTy.Contents (Elt F) arg4.view.ty) : ℕ → List (View.Piece (Elt F) S1x2048 .f32)
  | 0 => []
  | k + 1 =>
    if h : k < k0_t1_loop.trips then
      (trip (F := F) c i arg1 harg1 arg2 harg2 arg3 harg3 arg4 harg4 arg5 harg5 arg6 harg6 v0 v2 v4 v6 X1 X2 ⟨k, h⟩ (arg4.view.writes (Elt F) G4 (pb v0 v2 v4 v6 X1 X2 G4 k))).1 ++ pb v0 v2 v4 v6 X1 X2 G4 k
    else pb v0 v2 v4 v6 X1 X2 G4 k

theorem pb_succ (v0 v2 v4 v6 : Vec F S1x1x2048 .f32) (X1 : BufTy.Contents (Elt F) arg1.view.ty) (X2 : BufTy.Contents (Elt F) arg2.view.ty)
    (G4 : BufTy.Contents (Elt F) arg4.view.ty) (k : Fin k0_t1_loop.trips) :
    pb (F := F) c i arg1 harg1 arg2 harg2 arg3 harg3 arg4 harg4 arg5 harg5 arg6 harg6 v0 v2 v4 v6 X1 X2 G4 (k.val + 1)
      = (trip (F := F) c i arg1 harg1 arg2 harg2 arg3 harg3 arg4 harg4 arg5 harg5 arg6 harg6 v0 v2 v4 v6 X1 X2 k (arg4.view.writes (Elt F) G4 (pb (F := F) c i arg1 harg1 arg2 harg2 arg3 harg3 arg4 harg4 arg5 harg5 arg6 harg6 v0 v2 v4 v6 X1 X2 G4 k.val))).1 ++ pb (F := F) c i arg1 harg1 arg2 harg2 arg3 harg3 arg4 harg4 arg5 harg5 arg6 harg6 v0 v2 v4 v6 X1 X2 G4 k.val := by
  rw [pb.eq_2]; exact dif_pos k.isLt

/-- What holds before block `k`: the boxes and columns as they were, the keep vector at the pieces of the blocks before
    `k`, the scratch buffers at anything. -/
abbrev inv (v0 v2 v4 v6 : Vec F S1x1x2048 .f32) (X1 : BufTy.Contents (Elt F) arg1.view.ty) (X2 : BufTy.Contents (Elt F) arg2.view.ty)
    (G4 : BufTy.Contents (Elt F) arg4.view.ty) (k : ℕ) : sProp 𝕄 :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f) ∗ ⌜f = arg4.view.writes (Elt F) G4 (pb (F := F) c i arg1 harg1 arg2 harg2 arg3 harg3 arg4 harg4 arg5 harg5 arg6 harg6 v0 v2 v4 v6 X1 X2 G4 k)⌝)
    ∗ (∃ f5, arg5.view.loc (c : Thread nD τ) ↦[arg5.view.set]{fullShare} f5)
    ∗ (∃ f6, arg6.view.loc (c : Thread nD τ) ↦[arg6.view.set]{fullShare} f6))

set_option warn.classDefReducibility false in
/-- The outer loop by its invariant. -/
@[sl_loop] def loopInv_k0_t1 (E : Set ℕ) (v0 v2 v4 v6 : Vec F S1x1x2048 .f32) (X1 : BufTy.Contents (Elt F) arg1.view.ty) (X2 : BufTy.Contents (Elt F) arg2.view.ty)
    (G4 : BufTy.Contents (Elt F) arg4.view.ty) :
    LoopInvTy_k0_t1 (F := F) Unit ℕ (UR sig nD τ) ℕ Variants.none c none E i arg1 harg1 arg2 harg2 arg3 harg3 arg4 harg4 arg5 harg5 arg6 harg6 v0 v2 v4 v6 where
  inv k _ := inv (F := F) c i arg1 harg1 arg2 harg2 arg3 harg3 arg4 harg4 arg5 harg5 arg6 harg6 v0 v2 v4 v6 X1 X2 G4 k
  step k acc := by
    iintro ⟨H1, H2, ⟨%f, H4, %h⟩, H5, H6⟩
    subst h
    iapply (wp_wand_r Idealize.ShloMosaic.frame (wpE (defs₀ (F := F)) Variants.none (c : Thread nD τ) none) E)
    isplitl [H1 H2 H4 H5 H6]
    · iapply ((trip (F := F) c i arg1 harg1 arg2 harg2 arg3 harg3 arg4 harg4 arg5 harg5 arg6 harg6 v0 v2 v4 v6 X1 X2 k _).2 E)
      isplitl [H1]; · iexact H1
      isplitl [H2]; · iexact H2
      isplitl [H4]; · iexact H4
      isplitl [H5]; · iexact H5
      iexact H6
    · iintro %yld ⟨H1, H2, H4, H5, H6⟩
      isplitl [H1]; · iexact H1
      isplitl [H2]; · iexact H2
      isplitl [H4]
      · iexists _; isplitl [H4]; · iexact H4
        ipureintro; rw [pb_succ, ← View.writes_append]
      isplitl [H5]; · iexact H5
      iexact H6

/-- The body's stores into its output block, and the run of the body. -/
def kernelRun (X1 : BufTy.Contents (Elt F) arg1.view.ty) (X2 : BufTy.Contents (Elt F) arg2.view.ty) :
    { L3 : List (View.Piece (Elt F) S1x384x4 .f32) //
      ∀ (K : PUnit → sProp 𝕄),
        iprop((arg1.view.loc (c : Thread nD τ) ↦[arg1.view.set]{fullShare} X1) ∗ (arg2.view.loc (c : Thread nD τ) ↦[arg2.view.set]{fullShare} X2)
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop((arg1.view.loc (c : Thread nD τ) ↦[arg1.view.set]{fullShare} X1) ∗ (arg2.view.loc (c : Thread nD τ) ↦[arg2.view.set]{fullShare} X2)
                ∗ (∃ f, arg3.view.loc (c : Thread nD τ) ↦[arg3.view.set]{fullShare} arg3.view.writes (Elt F) f L3)
                ∗ (∃ d, owns (c : Thread nD τ) arg4 fullShare d)
                ∗ (∃ d, owns (c : Thread nD τ) arg5 fullShare d) ∗ (∃ d, owns (c : Thread nD τ) arg6 fullShare d)) -∗ K ⟨⟩))
          ⊢ wp frame (wpE (defs₀ (F := F)) Variants.none (c : Thread nD τ) none) Set.univ
              (cc0__nms_sel_kernel (F := F) i arg1 harg1 arg2 harg2 arg3 harg3 arg4 harg4 arg5 harg5 arg6 harg6) K } := by
  refine ⟨?_, fun K => ?run⟩
  case run =>
    simp only [cc0__nms_sel_kernel_eq_skeleton]; unfold cc0__nms_sel_kernel_skel
    unfold owns
    iintro ⟨H1, H2, ⟨%d3, %f3, -, H3⟩, ⟨%d4, %f4, -, H4⟩, ⟨%d5, %f5, -, H5⟩, ⟨%d6, %f6, -, H6⟩, Hk⟩
    sl_exec
    sl_step
    iapply Hk
    isplitl [H1]; · iexact H1
    isplitl [H2]; · iexact H2
    isplitl [H3]; · iexists _; iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

end Cert.KernelIdeal.Hand

end
-- ==== Proof.FrameIdeal.lean ====
/-
  The kernel's frame: its body at a grid point, the proof data of its one pipeline, and the run of the whole program.
-/
module

public import proofs.«01_k».proof.Proof.TripIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The twelve columns the body stores fill its output block. -/
theorem cover_out (c : Dev nD) (i : grid0.Coords) (arg1 : Memref sig .tc .vmem S1x2048x4 .f32) (harg1 : arg1.IsWhole) (arg2 : Memref sig .tc .vmem S1x4x2048 .f32) (harg2 : arg2.IsWhole) (arg3 : Memref sig .tc .vmem S1x384x4 .f32) (harg3 : arg3.IsWhole) (arg4 : Memref sig .tc .vmem S1x2048 .f32) (harg4 : arg4.IsWhole) (arg5 : Memref sig .tc .vmem S128x128 .f32) (harg5 : arg5.IsWhole) (arg6 : Memref sig .tc .vmem S128x1 .f32) (harg6 : arg6.IsWhole)
    (X1 : BufTy.Contents (Elt F) arg1.view.ty) (X2 : BufTy.Contents (Elt F) arg2.view.ty) (y : S1x384x4.Idx) :
    ∃ pc ∈ (kernelRun c i arg1 harg1 arg2 harg2 arg3 harg3 arg4 harg4 arg5 harg5 arg6 harg6 X1 X2).1, y ∈ pc.1.set :=
  View.cover_of_tiledL (kernelRun c i arg1 harg1 arg2 harg2 arg3 harg3 arg4 harg4 arg5 harg5 arg6 harg6 X1 X2).1 S1x128x1.size (by sl_kernel_rfl) y

/-- The view the output block is read through. -/
abbrev VO : View sig .tc .vmem S1x384x4 .f32 := (Memref.whole cc0_stg2_0 : Memref sig .tc .vmem S1x384x4 .f32).view

/-- The scratch buffers as whole memrefs. -/
abbrev sc0 : Memref sig .tc .vmem S1x2048 .f32 := Memref.whole cc0_scratch0
abbrev sc1 : Memref sig .tc .vmem S128x128 .f32 := Memref.whole cc0_scratch1
abbrev sc2 : Memref sig .tc .vmem S128x1 .f32 := Memref.whole cc0_scratch2

/-- The staging buffers at a point. -/
abbrev ms0 (t : Fin cfg0.N) : Memref sig .tc .vmem S1x2048x4 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x384x4 .f32 := win0_2.stage (cfg0.slots t 2)
abbrev hs2 (t : Fin cfg0.N) : (ms2 t).IsWhole := hstage0_2 ((cfg0.slots t 2).cast nbuf0_2)

/-- The body's stores at point `t`, its two input blocks holding `x1` and `x2`. -/
abbrev piecesAt (c : Dev nD) (t : Fin cfg0.N) (x1 : Vec F S1x2048x4 .f32) (x2 : Vec F S1x4x2048 .f32) :=
  kernelRun c (grid0.coords t) (ms0 t) (hs0 t) (ms1 t) (hs1 t) (ms2 t) (hs2 t) sc0 (Memref.isWhole_whole _) sc1 (Memref.isWhole_whole _)
    sc2 (Memref.isWhole_whole _) ((hs0 t).unread x1) ((hs1 t).unread x2)

/-- The output block the body leaves at point `t`. -/
def outAt (c : Dev nD) (t : Fin cfg0.N) (x1 : Vec F S1x2048x4 .f32) (x2 : Vec F S1x4x2048 .f32) : Vec F S1x384x4 .f32 :=
  VO.read (Elt F) (VO.writes (Elt F) VO.junk (piecesAt c t x1 x2).1)

/-- The proof data of the pipeline on core `c`: the two inputs stay at their blocks, the output block is what the body
    leaves, the scratch carries nothing between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt c t (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt c t (iblk m c 0 t) (iblk m c 1 t) := by
  dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The invariant between points: the three scratch buffers at any contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
                ∗ (∃ d, owns (c : Thread nD τ) sc2 fullShare d)) ∗ (∃ r, prngReg c r)) := by
  unfold Pipeline.ΦA
  rw [scopedRest0_eq]
  simp only [sc0, sc1, sc2, owns_whole]; try rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
/-- What the body gives back at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body runs at every point, and leaves the output block `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2]
  rw [show (dats m 0 c).Φ t.castSucc = Pipeline.ΦA spec0 c from rfl, PhiA_eq]
  simp only [before_0, before_1]
  unfold Dat.owesAt Pipeline.owesWithin
  rw [show (dats m 0 c).owed t.castSucc = 0 from rfl, show (dats m 0 c).owed t.succ = 0 from rfl]
  unfold outAt
  generalize iblk m c 0 t = x1
  generalize iblk m c 1 t = x2
  iintro ⟨⟨⟨S0, S1, S2⟩, Hg⟩, HW, ⟨%d0, H0⟩, ⟨%d1, H1⟩, ⟨%d2, H2⟩⟩
  unfold owns
  icases H0 with ⟨%f0, %hf0, H0⟩
  icases H1 with ⟨%f1, %hf1, H1⟩
  obtain rfl := (hs0 t).eq_unread hf0
  obtain rfl := (hs1 t).eq_unread hf1
  iapply ((piecesAt c t x1 x2).2 _)
  isplitl [H0]; · iexact H0
  isplitl [H1]; · iexact H1
  isplitl [H2]; · iexists _; unfold owns; iexact H2
  isplitl [S0]; · unfold owns; iexact S0
  isplitl [S1]; · unfold owns; iexact S1
  isplitl [S2]; · unfold owns; iexact S2
  iintro ⟨H0, H1, ⟨%e, H2⟩, S0, S1, S2⟩
  isplitl [S0 S1 S2 Hg]
  · isplitl [S0 S1 S2]
    · isplitl [S0]; · unfold owns; iexact S0
      isplitl [S1]; · unfold owns; iexact S1
      unfold owns; iexact S2
    iexact Hg
  isplitl [HW]
  · icases HW with ⟨%W, -, HW⟩
    iexists W; isplitr; · ipureintro; exact fun _ _ => Or.inl trivial
    iexact HW
  isplitl [H0]
  · iexists _; isplitr; swap; · iexact H0
    ipureintro; exact (hs0 t).read_unread _
  isplitl [H1]
  · iexists _; isplitr; swap; · iexact H1
    ipureintro; exact (hs1 t).read_unread _
  iexists _; isplitr
  swap; · iexact H2
  ipureintro; exact View.read_writes_of_cover _ _ _ _ _ (cover_out c _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs; every array ends at what the pipeline leaves in it, every other buffer at what the host
    operations leave, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) (A_eq m)) (run_main m ρ)

end Cert.KernelIdeal.Hand

end
-- ==== Proof.FrameReference.lean ====
/-
  The reference's frame: it runs to its end with its arguments unchanged.
-/
module

public import proofs.«01_k».proof.Proof.Gen.ReferenceIdeal.Run
public import Idealize.ShloMosaic.Lib.Pipeline.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The reference names no semaphore. -/
theorem noSem (x : SemLoc sig) : False :=
  (Fintype.card_eq_zero_iff.mp (SemLoc.card_eq (sig := sig))).false x

/-- The buffers written before the loop. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W

/-- A buffer that no operation before the loop writes enters the loop as launched. -/
theorem entry_keep (c : Dev nD) (b : Ref sig .tc) (hb : b ∉ preW) :
    entryContents preI m c (Proc.devRef .tc b) = m ((c.tc : Thread nD τ).loc b) := by
  simp only [preW, List.mem_append, not_or] at hb
  obtain ⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩ := hb
  unfold preI
  simp only [entryContents, afterL_cons, afterL_nil]
  rw [after_of_writes_sub hostOps0_20 _ hostOps0_20_writes h20]
  rw [after_of_writes_sub hostOps0_19 _ hostOps0_19_writes h19]
  rw [after_of_writes_sub hostOps0_18 _ hostOps0_18_writes h18]
  rw [after_of_writes_sub hostOps0_17 _ hostOps0_17_writes h17]
  rw [after_of_writes_sub hostOps0_16 _ hostOps0_16_writes h16]
  rw [after_of_writes_sub hostOps0_15 _ hostOps0_15_writes h15]
  rw [after_of_writes_sub hostOps0_14 _ hostOps0_14_writes h14]
  rw [after_of_writes_sub hostOps0_13 _ hostOps0_13_writes h13]
  rw [after_of_writes_sub hostOps0_12 _ hostOps0_12_writes h12]
  rw [after_of_writes_sub hostOps0_11 _ hostOps0_11_writes h11]
  rw [after_of_writes_sub hostOps0_10 _ hostOps0_10_writes h10]
  rw [after_of_writes_sub hostOps0_9 _ hostOps0_9_writes h9]
  rw [after_of_writes_sub hostOps0_8 _ hostOps0_8_writes h8]
  rw [after_of_writes_sub hostOps0_7 _ hostOps0_7_writes h7]
  rw [after_of_writes_sub hostOps0_6 _ hostOps0_6_writes h6]
  rw [after_of_writes_sub hostOps0_5 _ hostOps0_5_writes h5]
  rw [after_of_writes_sub hostOps0_4 _ hostOps0_4_writes h4]
  rw [after_of_writes_sub hostOps0_3 _ hostOps0_3_writes h3]
  rw [after_of_writes_sub hostOps0_2 _ hostOps0_2_writes h2]
  rw [after_of_writes_sub hostOps0_1 _ hostOps0_1_writes h1]
  rw [after_of_writes_sub hostOps0 _ hostOps0_writes h0]

/-- A buffer the loop does not write holds before every trip what it held at the loop's entry. -/
theorem atK_keep (c : Dev nD) (b : Ref sig .tc) (hc : b ∉ condOps_W) (hb : b ∉ while0Ops0_W) :
    ∀ k, atK m k c (Proc.devRef .tc b) = entryContents preI m c (Proc.devRef .tc b)
  | 0 => rfl
  | k + 1 => by
    rw [show atK m (k + 1) c = afterL bodyI (after condOps (atK m k c)) from rfl]
    unfold bodyI
    rw [afterL_cons, afterL_nil]
    rw [after_of_writes_sub while0Ops0 _ while0Ops0_writes hb, after_of_writes_sub condOps _ condOps_writes hc, atK_keep c b hc hb k]

/-- The loop's exit: what the operations after the loop start from. -/
def exitContents (c : Dev nD) : Valuation τ sig (Elt F) := after condOps (atK m 2000 c)

theorem final_eq (c : Dev nD) : finalContents condOps preI bodyI postI 2000 m c = afterL postI (exitContents m c) := rfl

/-- The loop's exit leaves what neither the condition nor a trip writes as it entered. -/
theorem exit_keep (c : Dev nD) (b : Ref sig .tc) (hc : b ∉ condOps_W) (hb : b ∉ while0Ops0_W) :
    exitContents m c (Proc.devRef .tc b) = entryContents preI m c (Proc.devRef .tc b) := by
  unfold exitContents
  rw [after_of_writes_sub condOps _ condOps_writes hc, atK_keep m c b hc hb]

set_option maxHeartbeats 4000000 in
/-- The first argument ends as launched. -/
theorem final_arg0 (c : Dev nD) :
    finalContents condOps preI bodyI postI 2000 m c (Proc.devRef .tc main_arg0) = m ((c.tc : Thread nD τ).loc main_arg0) := by
  rw [final_eq, ← entry_keep m c main_arg0 (by decide), ← exit_keep m c main_arg0 (by decide) (by decide)]
  unfold postI
  simp only [afterL_cons, afterL_nil]
  after_reads_simp

set_option maxHeartbeats 4000000 in
/-- The second argument ends as launched. -/
theorem final_arg1 (c : Dev nD) :
    finalContents condOps preI bodyI postI 2000 m c (Proc.devRef .tc main_arg1) = m ((c.tc : Thread nD τ).loc main_arg1) := by
  rw [final_eq, ← entry_keep m c main_arg1 (by decide), ← exit_keep m c main_arg1 (by decide) (by decide)]
  unfold postI
  simp only [afterL_cons, afterL_nil]
  after_reads_simp

/-- The reference runs, its arguments end unchanged, and there is no counter to read other than zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨(h c main_arg0 (by decide)).trans (final_arg0 m c), (h c main_arg1 (by decide)).trans (final_arg1 m c)⟩,
    funext fun g => (noSem g.2).elim⟩) (run_fold m ρ)

end Cert.ReferenceIdeal.Hand

end
-- ==== Proof.Prefix.lean ====
/-
  The kernel's host operations before its padding and the reference's before its overlap table are the same operations on
  buffers of the same places. The two runs are followed side by side: after each operation the buffers written so far hold
  equal contents on both sides.
-/
module

public import proofs.«01_k».proof.Proof.FrameIdeal
public import proofs.«01_k».proof.Proof.FrameReference
public import Idealize.ShloMosaic.PureOps.Ideal

@[expose] public section

noncomputable section

namespace Cert.Prefix

open Idealize.ShloMosaic Idealize.ShloMosaic.TcCoe Idealize.ShloMosaic.StableHlo

/-- Contents of the kernel's buffers, at the ideal values. -/
abbrev VK := Valuation Cert.KernelIdeal.τ Cert.KernelIdeal.sig (Elt Ideal)

/-- Contents of the reference's buffers, at the ideal values. -/
abbrev VR := Valuation Cert.ReferenceIdeal.τ Cert.ReferenceIdeal.sig (Elt Ideal)

/-- The kernel's tensor buffer at place `i`. -/
abbrev kref (i : ℕ) (h : i < 212) : Ref Cert.KernelIdeal.sig .tc := ⟨.hbm, ⟨i, h.trans (by decide)⟩, rfl⟩

/-- The reference's tensor buffer at place `i`. -/
abbrev rref (i : ℕ) (h : i < 212) : Ref Cert.ReferenceIdeal.sig .tc := ⟨.hbm, ⟨i, h.trans (by decide)⟩, rfl⟩

theorem kref_ne {i n : ℕ} (hi hn) (h : i ≠ n) : kref i hi ≠ kref n hn := by
  intro e
  have e' := congrArg (fun r : Ref Cert.KernelIdeal.sig .tc => r.idx.1) e
  exact h e'

theorem rref_ne {i n : ℕ} (hi hn) (h : i ≠ n) : rref i hi ≠ rref n hn := by
  intro e
  have e' := congrArg (fun r : Ref Cert.ReferenceIdeal.sig .tc => r.idx.1) e
  exact h e'

/-- The two runs agree on the buffers at places below `n`. -/
def Rel (n : ℕ) (V : VK) (V' : VR) : Prop :=
  ∀ i (h : i < 212), i < n →
    HEq (V (Proc.devRef .tc (kref i h))) (V' (Proc.devRef .tc (rref i h)))

/-- One operation of each program, each writing the buffer at place `n`, keeps the agreement. -/
def OpSim (n : ℕ) (op : HloOp Cert.KernelIdeal.τ Cert.KernelIdeal.sig (Elt Ideal))
    (op' : HloOp Cert.ReferenceIdeal.τ Cert.ReferenceIdeal.sig (Elt Ideal)) : Prop :=
  ∀ V V', Rel n V V' → Rel (n + 1) (op.result V) (op'.result V')

/-- A stretch of operations of each program takes the agreement below `n` to the one below `k`. -/
def Sim (n k : ℕ) (ops : List (HloOp Cert.KernelIdeal.τ Cert.KernelIdeal.sig (Elt Ideal)))
    (ops' : List (HloOp Cert.ReferenceIdeal.τ Cert.ReferenceIdeal.sig (Elt Ideal))) : Prop :=
  ∀ V V', Rel n V V' → Rel k (after ops V) (after ops' V')

theorem Sim.nil (n : ℕ) : Sim n n [] [] := fun _ _ h => h

theorem Sim.cons {n m k : ℕ} {op : HloOp Cert.KernelIdeal.τ Cert.KernelIdeal.sig (Elt Ideal)} {op' : HloOp Cert.ReferenceIdeal.τ Cert.ReferenceIdeal.sig (Elt Ideal)}
    {ops : List (HloOp Cert.KernelIdeal.τ Cert.KernelIdeal.sig (Elt Ideal))} {ops' : List (HloOp Cert.ReferenceIdeal.τ Cert.ReferenceIdeal.sig (Elt Ideal))} (hm : n + 1 = m) (h : OpSim n op op') (hs : Sim m k ops ops') :
    Sim n k (op :: ops) (op' :: ops') := by
  subst hm
  exact fun V V' hV => hs _ _ (h V V' hV)

/-- What one operation has to do: leave the other buffers alone, and write equal contents at place `n`. -/
theorem rel_step {n : ℕ} (hn : n < 212) {V : VK} {V' : VR} {W : VK} {W' : VR} (hV : Rel n V V')
    (hW : ∀ i (h : i < 212), i ≠ n → W (Proc.devRef .tc (kref i h)) = V (Proc.devRef .tc (kref i h)))
    (hW' : ∀ i (h : i < 212), i ≠ n → W' (Proc.devRef .tc (rref i h)) = V' (Proc.devRef .tc (rref i h)))
    (hy : HEq (W (Proc.devRef .tc (kref n hn))) (W' (Proc.devRef .tc (rref n hn)))) : Rel (n + 1) W W' := by
  intro i hi hin
  rcases Nat.lt_succ_iff_lt_or_eq.mp hin with h | h
  · rw [hW i hi (by omega), hW' i hi (by omega)]
    exact hV i hi h
  · subst h
    exact hy

variable {n : ℕ}

theorem heq_cast {α β : Type} (h : α = β) {a : α} {b : β} (hab : HEq a b) : b = cast h a := by
  subst h; exact (eq_of_heq hab).symm

theorem OpSim.nullary (hn : n < 212) {v : (kref n hn).ty.Contents (Elt Ideal)} {v' : (rref n hn).ty.Contents (Elt Ideal)} {hy hy'} (hv : HEq v v') :
    OpSim n (StableHlo.nullary (kref n hn) v hy) (StableHlo.nullary (rref n hn) v' hy') := fun V V' hV =>
  rel_step hn hV (fun i h hi => nullary_result_ne (h := kref_ne h hn hi) ..)
    (fun i h hi => nullary_result_ne (h := rref_ne h hn hi) ..)
    (by rw [nullary_result, nullary_result]; exact hv)

theorem OpSim.unary (hn : n < 212) (a : ℕ) (ha : a < n) {f : (kref a (ha.trans hn)).ty.Contents (Elt Ideal) → (kref n hn).ty.Contents (Elt Ideal)} {f' : (rref a (ha.trans hn)).ty.Contents (Elt Ideal) → (rref n hn).ty.Contents (Elt Ideal)} {hx hy hx' hy'}
    (hA : (kref a (ha.trans hn)).ty.Contents (Elt Ideal) = (rref a (ha.trans hn)).ty.Contents (Elt Ideal))
    (hf : ∀ u, HEq (f u) (f' (cast hA u))) :
    OpSim n (StableHlo.unary (kref a (ha.trans hn)) (kref n hn) f hx hy)
      (StableHlo.unary (rref a (ha.trans hn)) (rref n hn) f' hx' hy') := fun V V' hV =>
  rel_step hn hV (fun i h hi => unary_result_ne (h := kref_ne h hn hi) ..)
    (fun i h hi => unary_result_ne (h := rref_ne h hn hi) ..)
    (by
      rw [unary_result, unary_result, heq_cast hA (hV a _ ha)]
      exact hf _)

theorem OpSim.binary (hn : n < 212) (a b : ℕ) (ha : a < n) (hb : b < n) {f : (kref a (ha.trans hn)).ty.Contents (Elt Ideal) → (kref b (hb.trans hn)).ty.Contents (Elt Ideal) → (kref n hn).ty.Contents (Elt Ideal)} {f' : (rref a (ha.trans hn)).ty.Contents (Elt Ideal) → (rref b (hb.trans hn)).ty.Contents (Elt Ideal) → (rref n hn).ty.Contents (Elt Ideal)} {hx hz hy hx' hz' hy'}
    (hA : (kref a (ha.trans hn)).ty.Contents (Elt Ideal) = (rref a (ha.trans hn)).ty.Contents (Elt Ideal))
    (hB : (kref b (hb.trans hn)).ty.Contents (Elt Ideal) = (rref b (hb.trans hn)).ty.Contents (Elt Ideal))
    (hf : ∀ u w, HEq (f u w) (f' (cast hA u) (cast hB w))) :
    OpSim n (StableHlo.binary (kref a (ha.trans hn)) (kref b (hb.trans hn)) (kref n hn) f hx hz hy)
      (StableHlo.binary (rref a (ha.trans hn)) (rref b (hb.trans hn)) (rref n hn) f' hx' hz' hy') := fun V V' hV =>
  rel_step hn hV (fun i h hi => binary_result_ne (h := kref_ne h hn hi) ..)
    (fun i h hi => binary_result_ne (h := rref_ne h hn hi) ..)
    (by
      rw [binary_result, binary_result, heq_cast hA (hV a _ ha), heq_cast hB (hV b _ hb)]
      exact hf _ _)

theorem OpSim.ternary (hn : n < 212) (a b c : ℕ) (ha : a < n) (hb : b < n) (hc : c < n)
    {f : (kref a (ha.trans hn)).ty.Contents (Elt Ideal) → (kref b (hb.trans hn)).ty.Contents (Elt Ideal) → (kref c (hc.trans hn)).ty.Contents (Elt Ideal) → (kref n hn).ty.Contents (Elt Ideal)} {f' : (rref a (ha.trans hn)).ty.Contents (Elt Ideal) → (rref b (hb.trans hn)).ty.Contents (Elt Ideal) → (rref c (hc.trans hn)).ty.Contents (Elt Ideal) → (rref n hn).ty.Contents (Elt Ideal)} {hx hz hw hy hx' hz' hw' hy'}
    (hA : (kref a (ha.trans hn)).ty.Contents (Elt Ideal) = (rref a (ha.trans hn)).ty.Contents (Elt Ideal))
    (hB : (kref b (hb.trans hn)).ty.Contents (Elt Ideal) = (rref b (hb.trans hn)).ty.Contents (Elt Ideal))
    (hC : (kref c (hc.trans hn)).ty.Contents (Elt Ideal) = (rref c (hc.trans hn)).ty.Contents (Elt Ideal))
    (hf : ∀ u w z, HEq (f u w z) (f' (cast hA u) (cast hB w) (cast hC z))) :
    OpSim n (StableHlo.ternary (kref a (ha.trans hn)) (kref b (hb.trans hn)) (kref c (hc.trans hn)) (kref n hn) f hx hz hw hy)
      (StableHlo.ternary (rref a (ha.trans hn)) (rref b (hb.trans hn)) (rref c (hc.trans hn)) (rref n hn) f' hx' hz' hw' hy') :=
  fun V V' hV =>
  rel_step hn hV (fun i h hi => ternary_result_ne (h := kref_ne h hn hi) ..)
    (fun i h hi => ternary_result_ne (h := rref_ne h hn hi) ..)
    (by
      rw [ternary_result, ternary_result, heq_cast hA (hV a _ ha), heq_cast hB (hV b _ hb), heq_cast hC (hV c _ hc)]
      exact hf _ _ _)

theorem OpSim.reshape (hn : n < 212) (a : ℕ) (ha : a < n) {he : (kref a (ha.trans hn)).ty.elt = (kref n hn).ty.elt} {he' : (rref a (ha.trans hn)).ty.elt = (rref n hn).ty.elt} {hs hx hy hs' hx' hy'}
    (hA : (kref a (ha.trans hn)).ty.Contents (Elt Ideal) = (rref a (ha.trans hn)).ty.Contents (Elt Ideal))
    (hf : ∀ u : (kref a (ha.trans hn)).ty.Contents (Elt Ideal),
      HEq (fun i => (he ▸ (shapeCast (kref n hn).ty.shape u hs i : Elt Ideal (kref a (ha.trans hn)).ty.elt) : Elt Ideal (kref n hn).ty.elt) : (kref n hn).ty.Contents (Elt Ideal))
        (fun i => (he' ▸ (shapeCast (rref n hn).ty.shape (cast hA u) hs' i : Elt Ideal (rref a (ha.trans hn)).ty.elt) : Elt Ideal (rref n hn).ty.elt) : (rref n hn).ty.Contents (Elt Ideal))) :
    OpSim n (StableHlo.reshape (kref a (ha.trans hn)) (kref n hn) he hs hx hy)
      (StableHlo.reshape (rref a (ha.trans hn)) (rref n hn) he' hs' hx' hy') := fun V V' hV =>
  rel_step hn hV (fun i h hi => reshape_result_ne (h := kref_ne h hn hi) ..)
    (fun i h hi => reshape_result_ne (h := rref_ne h hn hi) ..)
    (by
      rw [reshape_result, reshape_result, heq_cast hA (hV a _ ha)]
      exact hf _)

theorem OpSim.nary (hn : n < 212) {k : ℕ} (a : Fin k → ℕ) (ha : ∀ j, a j < n)
    {xs : Fin k → Ref Cert.KernelIdeal.sig .tc} {xs' : Fin k → Ref Cert.ReferenceIdeal.sig .tc}
    (hxs : ∀ j, xs j = kref (a j) ((ha j).trans hn)) (hxs' : ∀ j, xs' j = rref (a j) ((ha j).trans hn))
    {f : (∀ j, (xs j).ty.Contents (Elt Ideal)) → (kref n hn).ty.Contents (Elt Ideal)} {f' : (∀ j, (xs' j).ty.Contents (Elt Ideal)) → (rref n hn).ty.Contents (Elt Ideal)} {hx hy hx' hy'}
    (hA : ∀ j, (xs j).ty.Contents (Elt Ideal) = (xs' j).ty.Contents (Elt Ideal))
    (hf : ∀ u, HEq (f u) (f' fun j => cast (hA j) (u j))) :
    OpSim n (StableHlo.nary xs (kref n hn) f hx hy) (StableHlo.nary xs' (rref n hn) f' hx' hy') := fun V V' hV =>
  rel_step hn hV (fun i h hi => nary_result_ne (h := kref_ne h hn hi) ..)
    (fun i h hi => nary_result_ne (h := rref_ne h hn hi) ..)
    (by
      rw [nary_result, nary_result]
      have e : (fun j => V' (Proc.devRef .tc (xs' j))) = fun j => cast (hA j) (V (Proc.devRef .tc (xs j))) := by
        funext j
        refine heq_cast (hA j) ?_
        have h := hV (a j) ((ha j).trans hn) (ha j)
        rw [hxs, hxs']
        exact h
      rw [e]
      exact hf _)

set_option maxRecDepth 100000 in
set_option maxHeartbeats 40000000 in
/-- Every stretch of the shared operations keeps the agreement: each operation is looked at for its form, and the fact
about that form is used. -/
theorem sims :
    Sim 2 72 (Cert.KernelIdeal.Gen.hostOps0 (F := Ideal)) (Cert.ReferenceIdeal.Gen.hostOps0 (F := Ideal))
    ∧ Sim 72 78 (Cert.KernelIdeal.Gen.hostOps0_1 (F := Ideal)) (Cert.ReferenceIdeal.Gen.hostOps0_1 (F := Ideal))
    ∧ Sim 78 84 (Cert.KernelIdeal.Gen.hostOps0_2 (F := Ideal)) (Cert.ReferenceIdeal.Gen.hostOps0_2 (F := Ideal))
    ∧ Sim 84 90 (Cert.KernelIdeal.Gen.hostOps0_3 (F := Ideal)) (Cert.ReferenceIdeal.Gen.hostOps0_3 (F := Ideal))
    ∧ Sim 90 119 (Cert.KernelIdeal.Gen.hostOps0_4 (F := Ideal)) (Cert.ReferenceIdeal.Gen.hostOps0_4 (F := Ideal))
    ∧ Sim 119 125 (Cert.KernelIdeal.Gen.hostOps0_5 (F := Ideal)) (Cert.ReferenceIdeal.Gen.hostOps0_5 (F := Ideal))
    ∧ Sim 125 129 (Cert.KernelIdeal.Gen.hostOps0_6 (F := Ideal)) (Cert.ReferenceIdeal.Gen.hostOps0_6 (F := Ideal))
    ∧ Sim 129 135 (Cert.KernelIdeal.Gen.hostOps0_7 (F := Ideal)) (Cert.ReferenceIdeal.Gen.hostOps0_7 (F := Ideal))
    ∧ Sim 135 139 (Cert.KernelIdeal.Gen.hostOps0_8 (F := Ideal)) (Cert.ReferenceIdeal.Gen.hostOps0_8 (F := Ideal))
    ∧ Sim 139 145 (Cert.KernelIdeal.Gen.hostOps0_9 (F := Ideal)) (Cert.ReferenceIdeal.Gen.hostOps0_9 (F := Ideal))
    ∧ Sim 145 149 (Cert.KernelIdeal.Gen.hostOps0_10 (F := Ideal)) (Cert.ReferenceIdeal.Gen.hostOps0_10 (F := Ideal))
    ∧ Sim 149 155 (Cert.KernelIdeal.Gen.hostOps0_11 (F := Ideal)) (Cert.ReferenceIdeal.Gen.hostOps0_11 (F := Ideal))
    ∧ Sim 155 184 (Cert.KernelIdeal.Gen.hostOps0_12 (F := Ideal)) (Cert.ReferenceIdeal.Gen.hostOps0_12 (F := Ideal))
    ∧ Sim 184 187 (Cert.KernelIdeal.Gen.hostOps0_13 (F := Ideal)) (Cert.ReferenceIdeal.Gen.hostOps0_13 (F := Ideal))
    ∧ Sim 187 190 (Cert.KernelIdeal.Gen.hostOps0_14 (F := Ideal)) (Cert.ReferenceIdeal.Gen.hostOps0_14 (F := Ideal))
    ∧ Sim 190 212 (Cert.KernelIdeal.Gen.hostOps0_15 (F := Ideal)) (Cert.ReferenceIdeal.Gen.hostOps0_15 (F := Ideal)) := by
  refine ⟨?_, ?_, ?_, ?_, ?_, ?_, ?_, ?_, ?_, ?_, ?_, ?_, ?_, ?_, ?_, ?_⟩
  repeat' first
    | exact .nil _
    | refine .cons (by simp only [Nat.reduceAdd]; rfl) (by (with_reducible show OpSim _ (StableHlo.nullary ..) _); exact OpSim.nullary (by decide) (by exact HEq.rfl)) ?_
    | refine .cons (by simp only [Nat.reduceAdd]; rfl) (by (with_reducible show OpSim _ (StableHlo.unary ..) _); exact OpSim.unary (by decide) _ (by decide) (by rfl) fun _ => by exact HEq.rfl) ?_
    | refine .cons (by simp only [Nat.reduceAdd]; rfl) (by (with_reducible show OpSim _ (StableHlo.binary ..) _); exact OpSim.binary (by decide) _ _ (by decide) (by decide) (by rfl) (by rfl) fun _ _ => by exact HEq.rfl) ?_
    | refine .cons (by simp only [Nat.reduceAdd]; rfl) (by (with_reducible show OpSim _ (StableHlo.reshape ..) _); exact OpSim.reshape (by decide) _ (by decide) (by rfl) fun _ => by exact HEq.rfl) ?_
    | refine .cons (by simp only [Nat.reduceAdd]; rfl) (by (with_reducible show OpSim _ (StableHlo.ternary ..) _); exact OpSim.ternary (by decide) _ _ _ (by decide) (by decide) (by decide) (by rfl) (by rfl) (by rfl) fun _ _ _ => by exact HEq.rfl) ?_
    | refine .cons (by simp only [Nat.reduceAdd]; rfl) (by (with_reducible show OpSim _ (StableHlo.nary ..) _); exact OpSim.nary (n := 114) (by decide) ![110, 111, 112, 113] (by decide) (by intro j; fin_cases j <;> rfl) (by intro j; fin_cases j <;> rfl) (by intro j; fin_cases j <;> rfl) fun _ => by exact HEq.rfl) ?_
    | refine .cons (by simp only [Nat.reduceAdd]; rfl) (by (with_reducible show OpSim _ (StableHlo.nary ..) _); exact OpSim.nary (n := 159) (by decide) ![155, 156, 157, 158] (by decide) (by intro j; fin_cases j <;> rfl) (by intro j; fin_cases j <;> rfl) (by intro j; fin_cases j <;> rfl) fun _ => by exact HEq.rfl) ?_

end Cert.Prefix

end
-- ==== Proof.Greedy.lean ====
/-
  Greedy suppression and its ranking, over natural numbers alone: which rows are kept when the rows are taken in order, and
  the place each row gets when the kept rows come first and the others after them.
-/
module

public import Idealize.ShloMosaic.Lib.Routing.Count
public import Idealize.ShloMosaic.Lib.SortPrefix

@[expose] public section

noncomputable section

namespace Cert.Nms

/-- Row `i` is kept when no earlier kept row overlaps it. -/
def Kept (ov : ℕ → ℕ → Prop) (i : ℕ) : Prop := ∀ j : Fin i, Kept ov j.1 → ¬ ov i j.1
termination_by i
decreasing_by exact j.2

/-- The rule of greedy suppression. -/
theorem kept_iff (ov : ℕ → ℕ → Prop) (i : ℕ) : Kept ov i ↔ ∀ j, j < i → Kept ov j → ¬ ov i j := by
  rw [Kept]
  exact ⟨fun h j hj => h ⟨j, hj⟩, fun h j => h j.1 j.2⟩

/-- Whether a row is kept depends only on how rows up to it overlap. -/
theorem kept_congr {ov ov' : ℕ → ℕ → Prop} {n : ℕ} (h : ∀ i j, i < n → j < i → (ov i j ↔ ov' i j)) :
    ∀ i, i < n → (Kept ov i ↔ Kept ov' i) := by
  intro i
  induction i using Nat.strong_induction_on with
  | _ i ih =>
    intro hi
    rw [kept_iff, kept_iff]
    refine forall_congr' fun j => forall_congr' fun hj => ?_
    rw [ih j hj (hj.trans hi), h i j hi hj]

open Classical in
/-- The place of row `i` among `n`: kept rows first, in order, then the others, in order. -/
def slot (K : ℕ → Prop) (n i : ℕ) : ℕ :=
  if K i then Nat.count K i else Nat.count K n + Nat.count (fun j => ¬ K j) i

variable {K : ℕ → Prop} {n : ℕ}

open Classical in
theorem count_add_count_not (K : ℕ → Prop) (n : ℕ) : Nat.count K n + Nat.count (fun j => ¬ K j) n = n := by
  induction n with
  | zero => simp
  | succ n ih =>
    rw [Nat.count_succ, Nat.count_succ]
    by_cases h : K n <;> simp [h] <;> omega

open Classical in
theorem slot_lt {i : ℕ} (hi : i < n) : slot K n i < n := by
  have h := count_add_count_not K n
  unfold slot
  split
  · next hk => have := Nat.count_strict_mono hk hi; omega
  · next hk =>
    have := Nat.count_strict_mono (p := fun j => ¬ K j) hk hi
    omega

open Classical in
theorem slot_inj {i j : ℕ} (hi : i < n) (hj : j < n) (h : slot K n i = slot K n j) : i = j := by
  unfold slot at h
  split at h <;> split at h
  · next a b => exact Nat.count_injective a b h
  · next a b => have := Nat.count_strict_mono a hi; omega
  · next a b => have := Nat.count_strict_mono b hj; omega
  · next a b => exact Nat.count_injective (p := fun j => ¬ K j) a b (by omega)

theorem exists_slot {s : ℕ} (hs : s < n) : ∃ i, i < n ∧ slot K n i = s := by
  let f : Fin n → Fin n := fun i => ⟨slot K n i, slot_lt i.2⟩
  have hf : Function.Injective f := fun a b h => Fin.ext (slot_inj a.2 b.2 (congrArg Fin.val h))
  obtain ⟨i, hi⟩ := (Finite.injective_iff_surjective.mp hf) ⟨s, hs⟩
  exact ⟨i.1, i.2, congrArg Fin.val hi⟩

/-- The row whose place is `s`. -/
def src (K : ℕ → Prop) (n : ℕ) (s : Fin n) : Fin n := ⟨(exists_slot (K := K) s.2).choose, (exists_slot (K := K) s.2).choose_spec.1⟩

theorem slot_src (s : Fin n) : slot K n (src K n s) = s := (exists_slot (K := K) s.2).choose_spec.2

theorem eq_src {i : ℕ} {s : Fin n} (hi : i < n) (h : slot K n i = s) : i = src K n s :=
  slot_inj hi (src K n s).2 (h.trans (slot_src s).symm)

theorem src_injective : Function.Injective (src K n) := fun a b h =>
  Fin.ext (by rw [← slot_src (K := K) a, h, slot_src])

open Classical in
/-- The priority of row `i`: falling from `n` over the kept rows, from `-1` over the others. -/
def prio (K : ℕ → Prop) (n i : ℕ) : ℤ := if K i then (n : ℤ) - i else -1 - i

open Classical in
/-- The earlier a row's place, the greater its priority. -/
theorem prio_lt {i j : ℕ} (hi : i < n) (hj : j < n) (h : slot K n i < slot K n j) : prio K n j < prio K n i := by
  unfold slot at h
  unfold prio
  split at h <;> split at h
  · next a b => rw [if_pos a, if_pos b]; by_contra hc; have := Nat.count_monotone K (show j ≤ i by omega); omega
  · next a b => rw [if_pos a, if_neg b]; omega
  · next a b => have := Nat.count_strict_mono b hj; omega
  · next a b =>
    rw [if_neg a, if_neg b]; by_contra hc
    have := Nat.count_monotone (fun j => ¬ K j) (show j ≤ i by omega); omega

open Idealize.ShloMosaic in
/-- Sorting the rows by falling priority brings row `src s` to place `s`. -/
theorem sortedFrom_prio (B : Fin n → Fin n → Bool)
    (hB : ∀ i j, B i j = decide (prio K n j < prio K n i)) (s : Fin n) :
    sortedFrom B s = src K n s := by
  have hlt : ∀ i j : Fin n, slot K n i < slot K n j → prio K n j < prio K n i := fun i j => prio_lt i.2 j.2
  have hT : StrictTotalBefore B := by
    refine ⟨fun a => by simp [hB], fun a b c hab hbc => ?_, fun a b hne => ?_⟩
    · simp only [hB, decide_eq_true_eq] at *; omega
    · simp only [hB, decide_eq_true_eq]
      rcases lt_trichotomy (slot K n a) (slot K n b) with h | h | h
      · exact Or.inl (hlt a b h)
      · exact absurd (Fin.ext (slot_inj a.2 b.2 h)) hne
      · exact Or.inr (hlt b a h)
  have := hT.sortedFrom_eq_of_prefix (le_refl n) (src K n) src_injective (fun i j hij => by
    rw [hB, decide_eq_false_iff_not]
    have := hlt (src K n i) (src K n j) (by rw [slot_src, slot_src]; exact hij)
    omega) (fun i p hp => by
    exfalso
    refine hp ⟨slot K n p, slot_lt p.2⟩ (Fin.ext ?_)
    exact (eq_src p.2 rfl).symm) s
  simpa using this

end Cert.Nms

end
-- ==== Proof.Scalars.lean ====
/-
  The scalars of the suppression over the extended reals: indicators and their sums, comparisons of small words, and when
  two boxes overlap too much.
-/
module

public import proofs.«01_k».proof.Proof.Greedy
public import Idealize.ShloMosaic.Lib.Pointwise

@[expose] public section

noncomputable section

namespace Cert.Nms

open Idealize.ShloMosaic

open Classical in
/-- One where `p` holds, zero where it does not. -/
def ind (p : Prop) : EReal := if p then 1 else 0

theorem ind_true {p : Prop} (h : p) : ind p = 1 := by unfold ind; exact if_pos h
theorem ind_false {p : Prop} (h : ¬ p) : ind p = 0 := by unfold ind; exact if_neg h
theorem ind_congr {p q : Prop} (h : p ↔ q) : ind p = ind q := congrArg ind (propext h)
theorem ind_nonneg (p : Prop) : 0 ≤ ind p := by
  by_cases h : p
  · rw [ind_true h]; exact zero_le_one
  · rw [ind_false h]
theorem ind_mul (p q : Prop) : ind p * ind q = ind (p ∧ q) := by
  by_cases h : p
  · rw [ind_true h, one_mul]; exact ind_congr (by simp [h])
  · rw [ind_false h, zero_mul, ind_false (fun k => h k.1)]
theorem ind_eq_zero {p : Prop} : ind p = 0 ↔ ¬ p := by
  by_cases h : p
  · rw [ind_true h]; simp [h]
  · rw [ind_false h]; simp [h]
theorem ind_pos {p : Prop} : 0 < ind p ↔ p := by
  by_cases h : p
  · rw [ind_true h]; simp [h]
  · rw [ind_false h]; simp [h]
theorem one_sub_ind (p : Prop) : 1 - ind p = ind (¬ p) := by
  by_cases h : p
  · rw [ind_true h, ind_false (not_not.mpr h)]; rw [← EReal.coe_one, ← EReal.coe_sub, sub_self, EReal.coe_zero]
  · rw [ind_false h, ind_true h, sub_zero]

/-- A truth value widened to a word and read as a float is its indicator. -/
theorem sitofp_ofBool (b : Bool) :
    (FloatOps.sitofp FTy.f32 (BitVec.setWidth 32 (BitVec.ofBool b)) : Ideal FTy.f32) = ind (b = true) := by
  cases b
  · rw [ind_false (by decide)]
    show (((BitVec.toInt (BitVec.setWidth 32 (BitVec.ofBool false)) : ℝ)) : EReal) = 0
    rw [show BitVec.toInt (BitVec.setWidth 32 (BitVec.ofBool false)) = 0 by decide]; simp
  · rw [ind_true rfl]
    show (((BitVec.toInt (BitVec.setWidth 32 (BitVec.ofBool true)) : ℝ)) : EReal) = 1
    rw [show BitVec.toInt (BitVec.setWidth 32 (BitVec.ofBool true)) = 1 by decide]; simp

theorem toInt_ofNat {n : ℕ} (h : n < 2 ^ 31) : (BitVec.ofNat 32 n).toInt = (n : ℤ) := by
  rw [BitVec.toInt_eq_toNat_cond, BitVec.toNat_ofNat, Nat.mod_eq_of_lt (by omega), if_pos (by omega)]

/-- A small number's word read as a float is that number. -/
theorem sitofp_ofNat {n : ℕ} (h : n < 2 ^ 31) :
    (FloatOps.sitofp FTy.f32 (BitVec.ofNat 32 n) : Ideal FTy.f32) = ((n : ℕ) : EReal) := by
  show (((BitVec.toInt (BitVec.ofNat 32 n) : ℝ)) : EReal) = _
  rw [toInt_ofNat h]; simp

theorem slt_ofNat {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  congr 1
  rw [BitVec.slt, toInt_ofNat ha, toInt_ofNat hb]; simp
theorem sgt_ofNat {a b : ℕ} (ha : a < 2 ^ 31) (hb : b < 2 ^ 31) :
    IntOp.cmpi .sgt (BitVec.ofNat 32 a) (BitVec.ofNat 32 b) = BitVec.ofBool (decide (b < a)) :=
  slt_ofNat hb ha
theorem sle_ofNat {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  congr 1
  rw [BitVec.sle, toInt_ofNat ha, toInt_ofNat hb]; simp
theorem eq_ofNat {a b : ℕ} (ha : a < 2 ^ 32) (hb : b < 2 ^ 32) :
    IntOp.cmpi .eq (BitVec.ofNat 32 a) (BitVec.ofNat 32 b) = BitVec.ofBool (decide (a = b)) := by
  show BitVec.ofBool (decide (BitVec.ofNat 32 a = BitVec.ofNat 32 b)) = _
  congr 1
  refine decide_eq_decide.mpr ⟨fun h => ?_, fun h => h ▸ rfl⟩
  have := congrArg BitVec.toNat h
  rwa [BitVec.toNat_ofNat, BitVec.toNat_ofNat, Nat.mod_eq_of_lt ha, Nat.mod_eq_of_lt hb] at this

/-- Two sums of indicators come to zero together exactly when nothing indicated holds. -/
theorem sum_ind_add_eq_zero {a b : ℕ} (P : Fin a → Prop) (Q : Fin b → Prop) :
    (∑ x, ind (P x)) + (∑ y, ind (Q y)) = 0 ↔ (∀ x, ¬ P x) ∧ ∀ y, ¬ Q y := by
  rw [add_eq_zero_iff_of_nonneg (Finset.sum_nonneg fun x _ => ind_nonneg _) (Finset.sum_nonneg fun x _ => ind_nonneg _),
    Finset.sum_eq_zero_iff_of_nonneg (fun x _ => ind_nonneg _), Finset.sum_eq_zero_iff_of_nonneg (fun x _ => ind_nonneg _)]
  simp only [Finset.mem_univ, true_implies, ind_eq_zero]

/-- A sum that one indicated term survives is that term. -/
theorem sum_onehot {n : ℕ} (P : Fin n → Prop) (f : Fin n → EReal) (a : Fin n) (h : ∀ x, P x ↔ x = a) :
    ∑ x, ind (P x) * f x = f a := by
  rw [Finset.sum_eq_single a, ind_true ((h a).mpr rfl), one_mul]
  · intro b _ hb; rw [ind_false (fun k => hb ((h b).mp k)), zero_mul]
  · intro ha; exact absurd (Finset.mem_univ a) ha

open Classical in
/-- The sum of indicators below `M` counts. -/
theorem sum_ind_count {N M : ℕ} (P : ℕ → Prop) (h : M ≤ N) :
    ∑ x : Fin N, ind (P x ∧ x.1 < M) = ((Nat.count P M : ℕ) : EReal) := by
  rw [Fin.sum_univ_eq_sum_range (fun x => ind (P x ∧ x < M)) N]
  induction M with
  | zero => simp [ind]
  | succ M ih =>
    have hs : ∀ x, ind (P x ∧ x < M + 1) = ind (P x ∧ x < M) + (if x = M then ind (P M) else 0) := by
      intro x
      by_cases hx : x = M
      · subst hx; rw [if_pos rfl, ind_false (p := P x ∧ x < x) (fun k => by omega), zero_add]
        exact ind_congr (by simp)
      · rw [if_neg hx, add_zero]
        exact ind_congr (and_congr_right fun _ => by omega)
    rw [Finset.sum_congr rfl fun x _ => hs x, Finset.sum_add_distrib, ih (by omega), Finset.sum_ite_eq',
      if_pos (Finset.mem_range.mpr (by omega)), Nat.count_succ]
    by_cases hp : P M
    · rw [ind_true hp, if_pos hp]; push_cast; rfl
    · rw [ind_false hp, if_neg hp]; simp

theorem natCast_succ_sub_one (n : ℕ) : (((n + 1 : ℕ)) : EReal) - 1 = ((n : ℕ) : EReal) := by
  rw [← EReal.coe_natCast, ← EReal.coe_natCast, ← EReal.coe_one, ← EReal.coe_sub]
  exact congrArg _ (by push_cast; ring)

/-- The words of the two literals: the overlap threshold and the guard of the quotient. -/
def thr : EReal := Ideal.ofBits FTy.f32 1060320051#32
def eps : EReal := Ideal.ofBits FTy.f32 814313567#32

/-- The area of a box `x1, y1, x2, y2`. -/
def area (a : Fin 4 → EReal) : EReal := (a 2 - a 0 + 1) * (a 3 - a 1 + 1)
/-- The area of the intersection of two boxes. -/
def inter (a b : Fin 4 → EReal) : EReal :=
  max (min (a 2) (b 2) - max (a 0) (b 0) + 1) 0 * max (min (a 3) (b 3) - max (a 1) (b 1) + 1) 0
/-- Two boxes overlap more than the threshold. -/
def Over (a b : Fin 4 → EReal) : Prop := thr < Ideal.div (inter a b) (area a + area b - inter a b + eps)

end Cert.Nms

end
-- ==== Proof.Payloads.lean ====
/-
  What the kernel body's vector expressions are, element by element, over the extended reals.
-/
module

public import proofs.«01_k».proof.Proof.Scalars
public import proofs.«01_k».proof.Proof.Gen.KernelIdeal.Skeleton

@[expose] public section

noncomputable section

namespace Cert.KernelIdeal.Hand

open Cert.KernelIdeal Cert.KernelIdeal.Gen Cert.Nms
open Idealize.ShloMosaic

/-- The overlaps of a block's row `r` with the rows of the keep vector, summed. -/
theorem pay10_apply (a1 a2 a3 a4 : Vec Ideal S1x128x1 .f32) (v0 v2 v4 v6 : Vec Ideal S1x1x2048 .f32) (kv : Vec Ideal S1x2048 .f32) (r : Fin 128) :
    k0_pay10 (k0_pay23 v0 v2 v4 v6) (k0_pay8 (k0_pay19 v0) (k0_pay20 v2) (k0_pay21 v4) (k0_pay22 v6) a1 a2 a3 a4) (k0_pay9 a1 a2 a3 a4) kv (ix2 r 0)
      = ∑ x : Fin 2048, ind (Over ![a1 (ix3 0 r 0), a2 (ix3 0 r 0), a3 (ix3 0 r 0), a4 (ix3 0 r 0)]
          ![v0 (ix3 0 0 x), v2 (ix3 0 0 x), v4 (ix3 0 0 x), v6 (ix3 0 0 x)]) * (kv (ix2 0 x) : EReal) := by
  pointwise [k0_pay10, k0_pay23, k0_pay8, k0_pay9, k0_pay19, k0_pay20, k0_pay21, k0_pay22, k0_pay3, k0_pay4, k0_pay5, k0_pay6, k0_pay7]
  refine Finset.sum_congr rfl fun x _ => ?_
  rw [sitofp_ofBool, decide_eq_true_eq]
  rfl

/-- Whether row `r` of a block overlaps its row `l`, an earlier one. -/
theorem pay25_apply (a1 a2 a3 a4 : Vec Ideal S1x128x1 .f32) (b1 b2 b3 b4 : Vec Ideal S1x1x128 .f32) (r l : Fin 128) :
    k0_pay25 (k0_pay5 a3) (k0_pay6 a4) (k0_pay7 a1 a2 a3 a4) (k0_pay13 b3) (k0_pay14 b4) (k0_pay15 b1 b2 b3 b4)
        (k0_pay16 (k0_pay3 a1) b1) (k0_pay17 (k0_pay4 a2)) (k0_pay18 b2) (ix2 r l)
      = ind (Over ![a1 (ix3 0 r 0), a2 (ix3 0 r 0), a3 (ix3 0 r 0), a4 (ix3 0 r 0)]
          ![b1 (ix3 0 0 l), b2 (ix3 0 0 l), b3 (ix3 0 0 l), b4 (ix3 0 0 l)] ∧ l < r) := by
  pointwise [k0_pay25, k0_pay5, k0_pay6, k0_pay7, k0_pay13, k0_pay14, k0_pay15, k0_pay16, k0_pay17, k0_pay18, k0_pay3, k0_pay4, k0_pay11, k0_pay12]
  rw [sgt_ofNat (by omega) (by omega), sitofp_ofBool, sitofp_ofBool, ind_mul, decide_eq_true_eq, decide_eq_true_eq]
  rfl

/-- One step of the inner loop: lane `n` is set to whether nothing kept overlaps it, the other lanes stay. -/
theorem pay27_apply (n : Fin k0_t2_loop.trips) (acc : FVec Ideal S1x128 .f32) (row : Vec Ideal S1x128 .f32) (p : Vec Ideal S1x1 .f32) (l : Fin 128) :
    k0_pay27 n acc row p (ix2 0 l)
      = if l.1 = n.1 then ind ((p (ix2 0 0) : EReal) + ∑ x : Fin 128, (row (ix2 0 x) : EReal) * acc (ix2 0 x) = 0) else acc (ix2 0 l) := by
  have hn : n.1 < 128 := Nat.lt_of_lt_of_le n.isLt k0_t2_abs.2.1
  pointwise [k0_pay27]
  rw [show Scf.iv 0#32 1#32 n.1 = BitVec.ofNat 32 n.1 by simp [Scf.iv], eq_ofNat (by omega) (by omega), sitofp_ofBool, decide_eq_true_eq]
  by_cases h : l.1 = n.1
  · rw [if_pos h, decide_eq_true h]; rfl
  · rw [if_neg h, decide_eq_false h]; rfl

/-- The place the kernel computes for a row: its slot where it is one of the first 2000 rows, a large number elsewhere. -/
theorem pay30_apply (K : ℕ → Prop) (v : Vec Ideal S1x2048 .f32) (hv : ∀ l : Fin 2048, v (ix2 0 l) = ind (K l)) (l : Fin 2048) :
    k0_pay30 v k0_pay29 (ix2 0 l) = if l.1 < 2000 then ((slot K 2000 l : ℕ) : EReal) else Ideal.ofBits FTy.f32 1315859240#32 := by
  classical
  have sl : ∀ x : Fin 2048, (FloatOps.sitofp FTy.f32 (BitVec.setWidth 32 (IntOp.cmpi CmpIPredicate.slt (BitVec.ofNat 32 x.1) 2000#32)) : Ideal FTy.f32)
      = ind (x.1 < 2000) := fun x => by
    rw [slt_ofNat (by omega) (by omega), sitofp_ofBool, decide_eq_true_eq]
  have se : ∀ x y : Fin 2048, (FloatOps.sitofp FTy.f32 (BitVec.setWidth 32 (IntOp.cmpi CmpIPredicate.sle (BitVec.ofNat 32 x.1) (BitVec.ofNat 32 y.1))) : Ideal FTy.f32)
      = ind (x.1 ≤ y.1) := fun x y => by
    rw [sle_ofNat (by omega) (by omega), sitofp_ofBool, decide_eq_true_eq]
  have se' : ∀ x : Fin 2048, (FloatOps.sitofp FTy.f32 (BitVec.setWidth 32 (IntOp.cmpi CmpIPredicate.sle (BitVec.ofNat 32 x.1) 2047#32)) : Ideal FTy.f32)
      = ind (x.1 ≤ 2047) := fun x => by
    rw [sle_ofNat (by omega) (by omega), sitofp_ofBool, decide_eq_true_eq]
  pointwise [k0_pay30, k0_pay29]
  simp only [hv, sl, se, se', one_sub_ind, ind_mul, ind_pos]
  by_cases hl : l.1 < 2000
  · have c1 : ∀ P : ℕ → Prop, ∑ x : Fin 2048, ind ((P x ∧ x.1 < 2000) ∧ x.1 ≤ l.1) = ((Nat.count P (l + 1) : ℕ) : EReal) := fun P => by
      rw [← sum_ind_count (N := 2048) P (show l.1 + 1 ≤ 2048 by omega)]
      exact Finset.sum_congr rfl fun x _ => ind_congr ⟨fun h => ⟨h.1.1, by omega⟩, fun h => ⟨⟨h.1, by omega⟩, by omega⟩⟩
    have c2 : ∑ x : Fin 2048, ind ((K x ∧ x.1 < 2000) ∧ x.1 ≤ 2047) = ((Nat.count K 2000 : ℕ) : EReal) := by
      rw [← sum_ind_count (N := 2048) K (show 2000 ≤ 2048 by omega)]
      exact Finset.sum_congr rfl fun x _ => ind_congr ⟨fun h => h.1, fun h => ⟨h, by omega⟩⟩
    rw [c1 K, c1 (fun x => ¬ K x), c2, if_pos hl]
    unfold slot
    by_cases hk : K l
    · rw [if_pos ⟨hk, hl⟩, if_pos hk, Nat.count_succ, if_pos hk, natCast_succ_sub_one]
    · have e : ∀ (i i' : DecidablePred fun x => ¬ K x), @Nat.count (fun x => ¬ K x) i (l.1 + 1) = @Nat.count (fun x => ¬ K x) i' l.1 + 1 := fun i i' => by
        rw [Subsingleton.elim i i', Nat.count_succ, if_pos hk]
      rw [if_neg (fun h => hk h.1), if_pos ⟨hk, hl⟩, if_neg hk, ← Nat.cast_add]
      refine Eq.trans (congrArg (fun z : ℕ => (z : EReal) - 1) ?_) (natCast_succ_sub_one _)
      rw [add_assoc]
      exact congrArg _ (e _ _)
  · rw [if_neg (fun h => hl h.2), if_neg (fun h => hl h.2), if_neg hl]

end Cert.KernelIdeal.Hand

end
-- ==== Proof.KeepValue.lean ====
/-
  What the kernel's outer loop leaves in the keep vector: one at the rows that greedy suppression keeps, zero elsewhere.
-/
module

public import proofs.«01_k».proof.Proof.FrameIdeal
public import proofs.«01_k».proof.Proof.Payloads
public import Idealize.ShloMosaic.Lib.WritesUnit

@[expose] public section

set_option maxRecDepth 8192

noncomputable section

namespace Cert.KernelIdeal.Hand

open Cert.KernelIdeal Cert.KernelIdeal.Gen Cert.Nms
open Idealize.ShloMosaic

/-- A load through a unit rectangle reads the buffer at the rectangle's offset and the position in it. -/
theorem readAt_unit_apply {κ : Kind} {sp : Space} {s : Shape} {e : EltTy} (v : View sig κ sp s e) (off size : Fin s.rank → ℕ) {off' : Fin s.rank → ℕ}
    (inb : ∀ a, off a + size a ≤ s.size a) (f : v.ty.Contents (Elt Ideal)) (x : (Rect.unit (s := s) off size inb).shape.Idx) (y : s.Idx)
    (heq : off = off') (h : ∀ a, (y a).val = off' a + (x a).val) :
    View.readAt (Elt Ideal) v (Rect.unit (s := s) off size inb).toLoadRect f x = v.read (Elt Ideal) f y := by
  show v.read (Elt Ideal) f ((Rect.unit (s := s) off size inb).toLoadRect.idx x) = _
  congr 1
  funext a
  refine Fin.ext ?_
  rw [h a, ← heq]
  show off a + 1 * (x a).val = _
  rw [one_mul]

variable (c : Dev nD) (i : grid0.Coords) (arg1 : Memref sig .tc .vmem S1x2048x4 .f32) (harg1 : arg1.IsWhole) (arg2 : Memref sig .tc .vmem S1x4x2048 .f32) (harg2 : arg2.IsWhole) (arg3 : Memref sig .tc .vmem S1x384x4 .f32) (harg3 : arg3.IsWhole) (arg4 : Memref sig .tc .vmem S1x2048 .f32) (harg4 : arg4.IsWhole) (arg5 : Memref sig .tc .vmem S128x128 .f32) (harg5 : arg5.IsWhole) (arg6 : Memref sig .tc .vmem S128x1 .f32) (harg6 : arg6.IsWhole)

/-- The inner loop's steps, from the overlaps within the block and the overlaps with the blocks before it. -/
theorem inner_value (ov : ℕ → ℕ → Prop) (B : ℕ) (hB : B + 128 ≤ 2048)
    (X5 : BufTy.Contents (Elt Ideal) arg5.view.ty) (X6 : BufTy.Contents (Elt Ideal) arg6.view.ty)
    (h5 : ∀ r l : Fin 128, arg5.view.read (Elt Ideal) X5 (ix2 r l) = ind (ov (B + r) (B + l) ∧ l < r))
    (h6 : ∀ r : Fin 128, arg6.view.read (Elt Ideal) X6 (ix2 r (0 : Fin 1)) = ∑ x : Fin 2048, ind (ov (B + r) x ∧ (x.1 < B ∧ Kept ov x)))
    (n : ℕ) (hn : n ≤ 128) (l : Fin 128) :
    st_k0_t2 (F := Ideal) Variants.none c none i arg1 harg1 arg2 harg2 arg3 harg3 arg4 harg4 arg5 harg5 arg6 harg6 X5 X6 k0_pay26 n (ix2 0 l)
      = ind (l.1 < n ∧ Kept ov (B + l)) := by
  induction n generalizing l with
  | zero =>
    rw [ind_false (fun h => absurd h.1 (Nat.not_lt_zero _))]
    show (k0_pay26 (F := Ideal)) (ix2 0 l) = 0
    pointwise [k0_pay26]
  | succ n ih =>
    have ht : n < k0_t2_loop.trips := lt_of_lt_of_le (Nat.lt_of_succ_le hn) (by decide +kernel)
    rw [st_k0_t2_succ Variants.none c none i arg1 harg1 arg2 harg2 arg3 harg3 arg4 harg4 arg5 harg5 arg6 harg6 X5 X6 k0_pay26 ⟨n, ht⟩]
    unfold tripR_k0_t2 trip_k0_t2
    dsimp only
    refine (pay27_apply _ _ _ _ l).trans ?_
    have r6 : View.readAt (Elt Ideal) arg6.view (Rect.unit (s := S128x1) (k0_off10 ⟨n, ht⟩) S1x1.size (k0_off10_inb ⟨n, ht⟩)).toLoadRect X6 (ix2 (0 : Fin 1) (0 : Fin 1))
        = ∑ x : Fin 2048, ind (ov (B + n) x ∧ (x.1 < B ∧ Kept ov x)) :=
      (readAt_unit_apply arg6.view _ _ _ X6 _ (ix2 (⟨n, by omega⟩ : Fin 128) (0 : Fin 1)) (k0_off10_eq _)
        (Fin.forall_fin_two.mpr ⟨by simp, by simp⟩)).trans (h6 _)
    have r5 : ∀ x : Fin 128, View.readAt (Elt Ideal) arg5.view (Rect.unit (s := S128x128) (k0_off9 ⟨n, ht⟩) S1x128.size (k0_off9_inb ⟨n, ht⟩)).toLoadRect X5 (ix2 (0 : Fin 1) x)
        = ind (ov (B + n) (B + x) ∧ x.1 < n) := fun x =>
      (readAt_unit_apply arg5.view _ _ _ X5 _ (ix2 (⟨n, by omega⟩ : Fin 128) x) (k0_off9_eq _)
        (Fin.forall_fin_two.mpr ⟨by simp, by simp⟩)).trans (h5 _ _)
    have hs : ((View.readAt (Elt Ideal) arg6.view (Rect.unit (s := S128x1) (k0_off10 ⟨n, ht⟩) S1x1.size (k0_off10_inb ⟨n, ht⟩)).toLoadRect X6 (ix2 (0 : Fin 1) (0 : Fin 1)) : EReal)
        + ∑ x : Fin 128, (View.readAt (Elt Ideal) arg5.view (Rect.unit (s := S128x128) (k0_off9 ⟨n, ht⟩) S1x128.size (k0_off9_inb ⟨n, ht⟩)).toLoadRect X5 (ix2 (0 : Fin 1) x) : EReal)
            * st_k0_t2 (F := Ideal) Variants.none c none i arg1 harg1 arg2 harg2 arg3 harg3 arg4 harg4 arg5 harg5 arg6 harg6 X5 X6 k0_pay26 n (ix2 0 x) = 0)
        ↔ Kept ov (B + n) := by
      rw [r6, Finset.sum_congr (g := fun x : Fin 128 => ind ((ov (B + n) (B + x) ∧ x.1 < n) ∧ (x.1 < n ∧ Kept ov (B + x)))) rfl
        (fun x _ => by rw [r5 x, ih (by omega) x, ind_mul]), sum_ind_add_eq_zero, kept_iff]
      constructor
      · rintro ⟨ha, hb⟩ j hj hk ho
        by_cases hjB : j < B
        · exact ha ⟨j, by omega⟩ ⟨ho, hjB, hk⟩
        · refine hb ⟨j - B, by omega⟩ ?_
          have e : B + (j - B) = j := by omega
          simp only [e]
          exact ⟨⟨ho, by omega⟩, by omega, hk⟩
      · intro h
        exact ⟨fun x hx => h x (by omega) hx.2.2 hx.1, fun y hy => h (B + y) (by omega) hy.2.2 hy.1.1⟩
    by_cases hl : l.1 = n
    · rw [if_pos hl]
      refine ind_congr (hs.trans ?_)
      rw [hl]
      exact ⟨fun h => ⟨by omega, h⟩, fun h => h.2⟩
    · rw [if_neg hl]
      refine (ih (by omega) l).trans (ind_congr ?_)
      exact ⟨fun h => ⟨by omega, h.2⟩, fun h => ⟨by omega, h.2⟩⟩

section
variable (X1 : BufTy.Contents (Elt Ideal) arg1.view.ty) (X2 : BufTy.Contents (Elt Ideal) arg2.view.ty) (k : Fin k0_t1_loop.trips)
/-- The block's four columns. -/
abbrev col1 : Vec Ideal S1x128x1 .f32 := View.readAt (Elt Ideal) arg1.view (Rect.unit (s := S1x2048x4) (k0_off1 k) S1x128x1.size (k0_off1_inb k)).toLoadRect X1
abbrev col2 : Vec Ideal S1x128x1 .f32 := View.readAt (Elt Ideal) arg1.view (Rect.unit (s := S1x2048x4) (k0_off2 k) S1x128x1.size (k0_off2_inb k)).toLoadRect X1
abbrev col3 : Vec Ideal S1x128x1 .f32 := View.readAt (Elt Ideal) arg1.view (Rect.unit (s := S1x2048x4) (k0_off3 k) S1x128x1.size (k0_off3_inb k)).toLoadRect X1
abbrev col4 : Vec Ideal S1x128x1 .f32 := View.readAt (Elt Ideal) arg1.view (Rect.unit (s := S1x2048x4) (k0_off4 k) S1x128x1.size (k0_off4_inb k)).toLoadRect X1
/-- The block's four rows of lanes. -/
abbrev row1 : Vec Ideal S1x1x128 .f32 := View.readAt (Elt Ideal) arg2.view (Rect.unit (s := S1x4x2048) (k0_off5 k) S1x1x128.size (k0_off5_inb k)).toLoadRect X2
abbrev row2 : Vec Ideal S1x1x128 .f32 := View.readAt (Elt Ideal) arg2.view (Rect.unit (s := S1x4x2048) (k0_off6 k) S1x1x128.size (k0_off6_inb k)).toLoadRect X2
abbrev row3 : Vec Ideal S1x1x128 .f32 := View.readAt (Elt Ideal) arg2.view (Rect.unit (s := S1x4x2048) (k0_off7 k) S1x1x128.size (k0_off7_inb k)).toLoadRect X2
abbrev row4 : Vec Ideal S1x1x128 .f32 := View.readAt (Elt Ideal) arg2.view (Rect.unit (s := S1x4x2048) (k0_off8 k) S1x1x128.size (k0_off8_inb k)).toLoadRect X2

/-- The overlaps within the block, as the body stores them. -/
abbrev blkSub : FVec Ideal S128x128 .f32 :=
  k0_pay25 (k0_pay5 (col3 arg1 X1 k)) (k0_pay6 (col4 arg1 X1 k)) (k0_pay7 (col1 arg1 X1 k) (col2 arg1 X1 k) (col3 arg1 X1 k) (col4 arg1 X1 k))
    (k0_pay13 (row3 arg2 X2 k)) (k0_pay14 (row4 arg2 X2 k)) (k0_pay15 (row1 arg2 X2 k) (row2 arg2 X2 k) (row3 arg2 X2 k) (row4 arg2 X2 k))
    (k0_pay16 (k0_pay3 (col1 arg1 X1 k)) (row1 arg2 X2 k)) (k0_pay17 (k0_pay4 (col2 arg1 X1 k))) (k0_pay18 (row2 arg2 X2 k))

/-- The overlaps with the rows kept so far, summed, as the body stores them. -/
abbrev blkPrev (v0 v2 v4 v6 : Vec Ideal S1x1x2048 .f32) (f4 : BufTy.Contents (Elt Ideal) arg4.view.ty) : FVec Ideal S128x1 .f32 :=
  k0_pay10 (k0_pay23 v0 v2 v4 v6)
    (k0_pay8 (k0_pay19 v0) (k0_pay20 v2) (k0_pay21 v4) (k0_pay22 v6) (col1 arg1 X1 k) (col2 arg1 X1 k) (col3 arg1 X1 k) (col4 arg1 X1 k))
    (k0_pay9 (col1 arg1 X1 k) (col2 arg1 X1 k) (col3 arg1 X1 k) (col4 arg1 X1 k))
    (View.readAt (Elt Ideal) arg4.view (Rect.unit (s := S1x2048) ![0, 0] S1x2048.size inb_S1x2048_S1x2048_0_0).toLoadRect f4)

/-- The one piece a trip writes. -/
theorem trip_eq (v0 v2 v4 v6 : Vec Ideal S1x1x2048 .f32) (f4 : BufTy.Contents (Elt Ideal) arg4.view.ty) :
    (trip (F := Ideal) c i arg1 harg1 arg2 harg2 arg3 harg3 arg4 harg4 arg5 harg5 arg6 harg6 v0 v2 v4 v6 X1 X2 k f4).1
      = [⟨Rect.unit (s := S1x2048) (k0_off11 k) S1x128.size (k0_off11_inb k),
          k0_pay28 (st_k0_t2 (F := Ideal) Variants.none c none i arg1 harg1 arg2 harg2 arg3 harg3 arg4 harg4 arg5 harg5 arg6 harg6
            (arg5.view.writes (Elt Ideal) arg5.view.junk [⟨Rect.unit (s := S128x128) ![0, 0] S128x128.size inb_S128x128_S128x128_0_0, blkSub arg1 arg2 X1 X2 k⟩])
            (arg6.view.writes (Elt Ideal) arg6.view.junk [⟨Rect.unit (s := S128x1) ![0, 0] S128x1.size inb_S128x1_S128x1_0_0, blkPrev arg1 arg4 X1 k v0 v2 v4 v6 f4⟩])
            k0_pay26 (Scf.trips k0_t2_loop.lb k0_t2_loop.ub k0_t2_loop.st))⟩] := by
  unfold trip; rfl
end

/-- The stored block is the loop's result. -/
theorem pay28_apply (v : FVec Ideal S1x128 .f32) (l : Fin 128) : k0_pay28 v (ix2 (0 : Fin 1) l) = v (ix2 (0 : Fin 1) l) := by
  pointwise [k0_pay28]

/-- Row `j` of a block of boxes, with rows past the end read as zero. -/
def bx (x1 : Vec Ideal S1x2048x4 .f32) (j : ℕ) : Fin 4 → EReal := fun q => if h : j < 2048 then x1 (ix3 (0 : Fin 1) (⟨j, h⟩ : Fin 2048) q) else 0

/-- A row's four coordinates, listed. -/
theorem bx_list (x1 : Vec Ideal S1x2048x4 .f32) (j : ℕ) (h : j < 2048) :
    bx x1 j = ![x1 (ix3 (0 : Fin 1) (⟨j, h⟩ : Fin 2048) 0), x1 (ix3 (0 : Fin 1) (⟨j, h⟩ : Fin 2048) 1), x1 (ix3 (0 : Fin 1) (⟨j, h⟩ : Fin 2048) 2), x1 (ix3 (0 : Fin 1) (⟨j, h⟩ : Fin 2048) 3)] := by
  funext q
  unfold bx
  rw [dif_pos h]
  fin_cases q <;> rfl

/-- Row `i` overlaps row `j`. -/
def ovl (x1 : Vec Ideal S1x2048x4 .f32) (i j : ℕ) : Prop := Over (bx x1 i) (bx x1 j)

section
variable (X1 : BufTy.Contents (Elt Ideal) arg1.view.ty) (X2 : BufTy.Contents (Elt Ideal) arg2.view.ty) (k : Fin k0_t1_loop.trips)
variable (x1 : Vec Ideal S1x2048x4 .f32) (h1 : arg1.view.read (Elt Ideal) X1 = x1)
  (h2 : ∀ (q : Fin 4) (l : Fin 2048), arg2.view.read (Elt Ideal) X2 (ix3 (0 : Fin 1) q l) = x1 (ix3 (0 : Fin 1) l q))
include h1

theorem col1_apply (r : Fin 128) (h : 128 * k.val + r < 2048) : col1 arg1 X1 k (ix3 0 r 0) = x1 (ix3 (0 : Fin 1) (⟨128 * k.val + r, h⟩ : Fin 2048) 0) :=
  (readAt_unit_apply arg1.view _ _ _ X1 _ (ix3 (0 : Fin 1) (⟨128 * k.val + r, h⟩ : Fin 2048) (0 : Fin 4)) (k0_off1_eq k)
    (fun a => by fin_cases a <;> simp)).trans (congrFun h1 _)

theorem col2_apply (r : Fin 128) (h : 128 * k.val + r < 2048) : col2 arg1 X1 k (ix3 0 r 0) = x1 (ix3 (0 : Fin 1) (⟨128 * k.val + r, h⟩ : Fin 2048) 1) :=
  (readAt_unit_apply arg1.view _ _ _ X1 _ (ix3 (0 : Fin 1) (⟨128 * k.val + r, h⟩ : Fin 2048) (1 : Fin 4)) (k0_off2_eq k)
    (fun a => by fin_cases a <;> simp)).trans (congrFun h1 _)

theorem col3_apply (r : Fin 128) (h : 128 * k.val + r < 2048) : col3 arg1 X1 k (ix3 0 r 0) = x1 (ix3 (0 : Fin 1) (⟨128 * k.val + r, h⟩ : Fin 2048) 2) :=
  (readAt_unit_apply arg1.view _ _ _ X1 _ (ix3 (0 : Fin 1) (⟨128 * k.val + r, h⟩ : Fin 2048) (2 : Fin 4)) (k0_off3_eq k)
    (fun a => by fin_cases a <;> simp)).trans (congrFun h1 _)

theorem col4_apply (r : Fin 128) (h : 128 * k.val + r < 2048) : col4 arg1 X1 k (ix3 0 r 0) = x1 (ix3 (0 : Fin 1) (⟨128 * k.val + r, h⟩ : Fin 2048) 3) :=
  (readAt_unit_apply arg1.view _ _ _ X1 _ (ix3 (0 : Fin 1) (⟨128 * k.val + r, h⟩ : Fin 2048) (3 : Fin 4)) (k0_off4_eq k)
    (fun a => by fin_cases a <;> simp)).trans (congrFun h1 _)

omit h1
include h2

theorem row1_apply (r : Fin 128) (h : 128 * k.val + r < 2048) : row1 arg2 X2 k (ix3 0 0 r) = x1 (ix3 (0 : Fin 1) (⟨128 * k.val + r, h⟩ : Fin 2048) 0) :=
  (readAt_unit_apply arg2.view _ _ _ X2 _ (ix3 (0 : Fin 1) (0 : Fin 4) (⟨128 * k.val + r, h⟩ : Fin 2048)) (k0_off5_eq k)
    (fun a => by fin_cases a <;> simp)).trans (h2 _ _)

theorem row2_apply (r : Fin 128) (h : 128 * k.val + r < 2048) : row2 arg2 X2 k (ix3 0 0 r) = x1 (ix3 (0 : Fin 1) (⟨128 * k.val + r, h⟩ : Fin 2048) 1) :=
  (readAt_unit_apply arg2.view _ _ _ X2 _ (ix3 (0 : Fin 1) (1 : Fin 4) (⟨128 * k.val + r, h⟩ : Fin 2048)) (k0_off6_eq k)
    (fun a => by fin_cases a <;> simp)).trans (h2 _ _)

theorem row3_apply (r : Fin 128) (h : 128 * k.val + r < 2048) : row3 arg2 X2 k (ix3 0 0 r) = x1 (ix3 (0 : Fin 1) (⟨128 * k.val + r, h⟩ : Fin 2048) 2) :=
  (readAt_unit_apply arg2.view _ _ _ X2 _ (ix3 (0 : Fin 1) (2 : Fin 4) (⟨128 * k.val + r, h⟩ : Fin 2048)) (k0_off7_eq k)
    (fun a => by fin_cases a <;> simp)).trans (h2 _ _)

theorem row4_apply (r : Fin 128) (h : 128 * k.val + r < 2048) : row4 arg2 X2 k (ix3 0 0 r) = x1 (ix3 (0 : Fin 1) (⟨128 * k.val + r, h⟩ : Fin 2048) 3) :=
  (readAt_unit_apply arg2.view _ _ _ X2 _ (ix3 (0 : Fin 1) (3 : Fin 4) (⟨128 * k.val + r, h⟩ : Fin 2048)) (k0_off8_eq k)
    (fun a => by fin_cases a <;> simp)).trans (h2 _ _)

include h1

/-- The stored overlaps within the block. -/
theorem blkSub_apply (hB : 128 * k.val + 128 ≤ 2048) (r l : Fin 128) :
    blkSub arg1 arg2 X1 X2 k (ix2 r l) = ind (ovl x1 (128 * k.val + r) (128 * k.val + l) ∧ l < r) := by
  refine (pay25_apply _ _ _ _ _ _ _ _ r l).trans ?_
  rw [col1_apply arg1 X1 k x1 h1 r (by omega), col2_apply arg1 X1 k x1 h1 r (by omega), col3_apply arg1 X1 k x1 h1 r (by omega), col4_apply arg1 X1 k x1 h1 r (by omega),
    row1_apply arg2 X2 k x1 h2 l (by omega), row2_apply arg2 X2 k x1 h2 l (by omega), row3_apply arg2 X2 k x1 h2 l (by omega), row4_apply arg2 X2 k x1 h2 l (by omega),
    ← bx_list, ← bx_list]
  rfl

/-- The stored sums of overlaps with the rows kept before the block. -/
theorem blkPrev_apply (hB : 128 * k.val + 128 ≤ 2048) (v0 v2 v4 v6 : Vec Ideal S1x1x2048 .f32)
    (hv0 : ∀ x : Fin 2048, v0 (ix3 0 0 x) = x1 (ix3 (0 : Fin 1) x 0)) (hv2 : ∀ x : Fin 2048, v2 (ix3 0 0 x) = x1 (ix3 (0 : Fin 1) x 1))
    (hv4 : ∀ x : Fin 2048, v4 (ix3 0 0 x) = x1 (ix3 (0 : Fin 1) x 2)) (hv6 : ∀ x : Fin 2048, v6 (ix3 0 0 x) = x1 (ix3 (0 : Fin 1) x 3))
    (f4 : BufTy.Contents (Elt Ideal) arg4.view.ty) (P : ℕ → Prop)
    (hf4 : ∀ l : Fin 2048, arg4.view.read (Elt Ideal) f4 (ix2 (0 : Fin 1) l) = ind (P l)) (r : Fin 128) :
    blkPrev arg1 arg4 X1 k v0 v2 v4 v6 f4 (ix2 r 0) = ∑ x : Fin 2048, ind (ovl x1 (128 * k.val + r) x ∧ P x) := by
  refine (pay10_apply _ _ _ _ _ _ _ _ _ r).trans ?_
  rw [col1_apply arg1 X1 k x1 h1 r (by omega), col2_apply arg1 X1 k x1 h1 r (by omega), col3_apply arg1 X1 k x1 h1 r (by omega), col4_apply arg1 X1 k x1 h1 r (by omega),
    ← bx_list]
  refine Finset.sum_congr rfl (fun x _ => ?_)
  rw [hv0, hv2, hv4, hv6, ← bx_list x1 x.1 x.2,
    (readAt_unit_apply arg4.view ![0, 0] S1x2048.size inb_S1x2048_S1x2048_0_0 f4 (ix2 (0 : Fin 1) x) (ix2 (0 : Fin 1) x) rfl (Fin.forall_fin_two.mpr ⟨by simp, by simp⟩)).trans (hf4 x), ind_mul]
  rfl

/-- One trip extends the kept rows by its block. -/
theorem trip_value (hB : 128 * k.val + 128 ≤ 2048) (v0 v2 v4 v6 : Vec Ideal S1x1x2048 .f32)
    (hv0 : ∀ x : Fin 2048, v0 (ix3 0 0 x) = x1 (ix3 (0 : Fin 1) x 0)) (hv2 : ∀ x : Fin 2048, v2 (ix3 0 0 x) = x1 (ix3 (0 : Fin 1) x 1))
    (hv4 : ∀ x : Fin 2048, v4 (ix3 0 0 x) = x1 (ix3 (0 : Fin 1) x 2)) (hv6 : ∀ x : Fin 2048, v6 (ix3 0 0 x) = x1 (ix3 (0 : Fin 1) x 3))
    (f4 : BufTy.Contents (Elt Ideal) arg4.view.ty)
    (hf4 : ∀ l : Fin 2048, arg4.view.read (Elt Ideal) f4 (ix2 (0 : Fin 1) l) = ind (l.1 < 128 * k.val ∧ Kept (ovl x1) l)) (l : Fin 2048) :
    arg4.view.read (Elt Ideal) (arg4.view.writes (Elt Ideal) f4
      (trip (F := Ideal) c i arg1 harg1 arg2 harg2 arg3 harg3 arg4 harg4 arg5 harg5 arg6 harg6 v0 v2 v4 v6 X1 X2 k f4).1) (ix2 (0 : Fin 1) l)
      = ind (l.1 < 128 * (k.val + 1) ∧ Kept (ovl x1) l) := by
  rw [trip_eq]
  by_cases hl : 128 * k.val ≤ l.1 ∧ l.1 < 128 * k.val + 128
  · rw [View.read_writes_cons_unit_of_mem arg4.view f4 (k0_off11_inb k) _ [] (ix2 (0 : Fin 1) l) (ix2 (0 : Fin 1) (⟨l.1 - 128 * k.val, by omega⟩ : Fin 128)) (k0_off11_eq k)
      (Fin.forall_fin_two.mpr ⟨by simp, by simp; omega⟩)]
    have ht : Scf.trips k0_t2_loop.lb k0_t2_loop.ub k0_t2_loop.st = 128 := by decide +kernel
    rw [ht]
    have e : 128 * k.val + (l.1 - 128 * k.val) = l.1 := by omega
    refine (pay28_apply _ _).trans ?_
    refine (inner_value c i arg1 harg1 arg2 harg2 arg3 harg3 arg4 harg4 arg5 harg5 arg6 harg6 (ovl x1) (128 * k.val) hB _ _ ?_ ?_ 128 le_rfl _).trans ?_
    · intro r q
      rw [View.read_writes_cons_unit_of_mem arg5.view _ inb_S128x128_S128x128_0_0 _ [] (ix2 r q) (ix2 r q) rfl (Fin.forall_fin_two.mpr ⟨by simp, by simp⟩)]
      exact blkSub_apply arg1 arg2 X1 X2 k x1 h1 h2 hB r q
    · intro r
      rw [View.read_writes_cons_unit_of_mem arg6.view _ inb_S128x1_S128x1_0_0 _ [] (ix2 r (0 : Fin 1)) (ix2 r (0 : Fin 1)) rfl (Fin.forall_fin_two.mpr ⟨by simp, by simp⟩)]
      exact blkPrev_apply arg1 arg2 arg4 X1 X2 k x1 h1 h2 hB v0 v2 v4 v6 hv0 hv2 hv4 hv6 f4 (fun j => j < 128 * k.val ∧ Kept (ovl x1) j) hf4 r
    · refine ind_congr ?_
      simp only [e]
      exact ⟨fun h => ⟨by omega, h.2⟩, fun h => ⟨by omega, h.2⟩⟩
  · rw [View.read_writes_cons_unit_of_not_mem arg4.view f4 (k0_off11_inb k) _ [] (ix2 (0 : Fin 1) l) (k0_off11_eq k) 1 (by simp; omega)]
    refine (hf4 l).trans (ind_congr ?_)
    exact ⟨fun h => ⟨by omega, h.2⟩, fun h => ⟨by omega, h.2⟩⟩

/-- The kept rows after `n` trips. -/
theorem pb_value (v0 v2 v4 v6 : Vec Ideal S1x1x2048 .f32)
    (hv0 : ∀ x : Fin 2048, v0 (ix3 0 0 x) = x1 (ix3 (0 : Fin 1) x 0)) (hv2 : ∀ x : Fin 2048, v2 (ix3 0 0 x) = x1 (ix3 (0 : Fin 1) x 1))
    (hv4 : ∀ x : Fin 2048, v4 (ix3 0 0 x) = x1 (ix3 (0 : Fin 1) x 2)) (hv6 : ∀ x : Fin 2048, v6 (ix3 0 0 x) = x1 (ix3 (0 : Fin 1) x 3))
    (G4 : BufTy.Contents (Elt Ideal) arg4.view.ty)
    (hG4 : ∀ l : Fin 2048, arg4.view.read (Elt Ideal) G4 (ix2 (0 : Fin 1) l) = 0) (n : ℕ) (hn : n ≤ 16) (l : Fin 2048) :
    arg4.view.read (Elt Ideal) (arg4.view.writes (Elt Ideal) G4
      (pb (F := Ideal) c i arg1 harg1 arg2 harg2 arg3 harg3 arg4 harg4 arg5 harg5 arg6 harg6 v0 v2 v4 v6 X1 X2 G4 n)) (ix2 (0 : Fin 1) l)
      = ind (l.1 < 128 * n ∧ Kept (ovl x1) l) := by
  induction n generalizing l with
  | zero =>
    rw [ind_false (fun h => absurd h.1 (by omega))]
    exact hG4 l
  | succ n ih =>
    have ht : n < k0_t1_loop.trips := lt_of_lt_of_le (Nat.lt_of_succ_le hn) (by decide +kernel)
    rw [pb_succ c i arg1 harg1 arg2 harg2 arg3 harg3 arg4 harg4 arg5 harg5 arg6 harg6 v0 v2 v4 v6 X1 X2 G4 ⟨n, ht⟩, View.writes_append]
    exact trip_value c i arg1 harg1 arg2 harg2 arg3 harg3 arg4 harg4 arg5 harg5 arg6 harg6 X1 X2 ⟨n, ht⟩ x1 h1 h2 (by simp; omega) v0 v2 v4 v6 hv0 hv2 hv4 hv6 _ (ih (by omega)) l

end

end Cert.KernelIdeal.Hand

end
-- ==== Proof.OutValue.lean ====
/-
  What the kernel's body leaves in its output block: the box of the row that holds each of the first slots.
-/
module

public import proofs.«01_k».proof.Proof.KeepValue

@[expose] public section

set_option maxRecDepth 16384

noncomputable section

namespace Cert.KernelIdeal.Hand

open Cert.KernelIdeal Cert.KernelIdeal.Gen Cert.Nms
open Idealize.ShloMosaic

/-- The row number within a block. -/
abbrev v17 : IVec S128x1 32 := iota .tc S128x1 32 [0] iota_S128x1_d0_w32

/-- The rows picked for slots 0 to 127. -/
theorem pay31_apply (v28 : Vec Ideal S1x2048 .f32) (l : Fin 128) (x : Fin 2048) :
    k0_pay31 v17 v28 k0_pay29 (ix2 l x) = ind (k0_pay30 v28 k0_pay29 (ix2 0 x) = ((l.1 : ℕ) : EReal)) := by
  pointwise [k0_pay31]
  rw [sitofp_ofBool]
  have e : IntOp.addi 0#32 (BitVec.ofNat 32 l.1) = BitVec.ofNat 32 l.1 := by
    simp [IntOp.addi]
  rw [e, sitofp_ofNat (by omega)]
  exact ind_congr decide_eq_true_iff

/-- The rows picked for slots 128 to 255. -/
theorem pay36_apply (v59 : FVec Ideal S1x2048 .f32) (l : Fin 128) (x : Fin 2048) :
    k0_pay36 v17 v59 (ix2 l x) = ind (v59 (ix2 0 x) = ((128 + l.1 : ℕ) : EReal)) := by
  pointwise [k0_pay36]
  rw [sitofp_ofBool]
  have e : IntOp.addi 128#32 (BitVec.ofNat 32 l.1) = BitVec.ofNat 32 (128 + l.1) := by
    simp [IntOp.addi, BitVec.ofNat_add]
  rw [e, sitofp_ofNat (by omega)]
  exact ind_congr decide_eq_true_iff

/-- The rows picked for slots 256 to 383. -/
theorem pay42_apply (v59 : FVec Ideal S1x2048 .f32) (l : Fin 128) (x : Fin 2048) :
    k0_pay42 v17 v59 (ix2 l x) = ind (v59 (ix2 0 x) = ((256 + l.1 : ℕ) : EReal)) := by
  pointwise [k0_pay42]
  rw [sitofp_ofBool]
  have e : IntOp.addi 256#32 (BitVec.ofNat 32 l.1) = BitVec.ofNat 32 (256 + l.1) := by
    simp [IntOp.addi, BitVec.ofNat_add]
  rw [e, sitofp_ofNat (by omega)]
  exact ind_congr decide_eq_true_iff

/-- A coordinate of the picked rows: the row of coordinates summed against the pick. -/
theorem pay33_apply (v67 : FVec Ideal S128x2048 .f32) (v77 : Vec Ideal S1x1x2048 .f32) (l : Fin 128) :
    k0_pay33 v67 v77 (ix3 0 l 0) = ∑ x : Fin 2048, v67 (ix2 l x) * v77 (ix3 0 0 x) := by
  pointwise [k0_pay33]

variable (c : Dev nD) (i : grid0.Coords) (arg1 : Memref sig .tc .vmem S1x2048x4 .f32) (harg1 : arg1.IsWhole) (arg2 : Memref sig .tc .vmem S1x4x2048 .f32) (harg2 : arg2.IsWhole) (arg3 : Memref sig .tc .vmem S1x384x4 .f32) (harg3 : arg3.IsWhole) (arg4 : Memref sig .tc .vmem S1x2048 .f32) (harg4 : arg4.IsWhole) (arg5 : Memref sig .tc .vmem S128x128 .f32) (harg5 : arg5.IsWhole) (arg6 : Memref sig .tc .vmem S128x1 .f32) (harg6 : arg6.IsWhole)
variable (X1 : BufTy.Contents (Elt Ideal) arg1.view.ty) (X2 : BufTy.Contents (Elt Ideal) arg2.view.ty)

/-- A row of coordinates, over every lane. -/
abbrev lane0 : Vec Ideal S1x1x2048 .f32 := View.readAt (Elt Ideal) arg2.view (Rect.unit (s := S1x4x2048) ![0, 0, 0] S1x1x2048.size inb_S1x4x2048_S1x1x2048_0_0_0).toLoadRect X2
abbrev lane1 : Vec Ideal S1x1x2048 .f32 := View.readAt (Elt Ideal) arg2.view (Rect.unit (s := S1x4x2048) ![0, 1, 0] S1x1x2048.size inb_S1x4x2048_S1x1x2048_0_1_0).toLoadRect X2
abbrev lane2 : Vec Ideal S1x1x2048 .f32 := View.readAt (Elt Ideal) arg2.view (Rect.unit (s := S1x4x2048) ![0, 2, 0] S1x1x2048.size inb_S1x4x2048_S1x1x2048_0_2_0).toLoadRect X2
abbrev lane3 : Vec Ideal S1x1x2048 .f32 := View.readAt (Elt Ideal) arg2.view (Rect.unit (s := S1x4x2048) ![0, 3, 0] S1x1x2048.size inb_S1x4x2048_S1x1x2048_0_3_0).toLoadRect X2

/-- The zeros the keep vector starts from. -/
abbrev zeros : List (View.Piece (Elt Ideal) S1x2048 .f32) := [⟨Rect.unit (s := S1x2048) ![0, 0] S1x2048.size inb_S1x2048_S1x2048_0_0, (k0_pay24 (F := Ideal))⟩]

/-- The keep vector after the loop. -/
abbrev keepV : Vec Ideal S1x2048 .f32 :=
  View.readAt (Elt Ideal) arg4.view (Rect.unit (s := S1x2048) ![0, 0] S1x2048.size inb_S1x2048_S1x2048_0_0).toLoadRect
    (arg4.view.writes (Elt Ideal) arg4.view.junk
      (pb (F := Ideal) c i arg1 harg1 arg2 harg2 arg3 harg3 arg4 harg4 arg5 harg5 arg6 harg6 (lane0 arg2 X2) (lane1 arg2 X2) (lane2 arg2 X2) (lane3 arg2 X2) X1 X2
        (arg4.view.writes (Elt Ideal) arg4.view.junk zeros) (Scf.trips k0_t1_loop.lb k0_t1_loop.ub k0_t1_loop.st) ++ zeros))

/-- The twelve pieces of the output block, the picked rows' coordinates. -/
abbrev outPieces (kv : Vec Ideal S1x2048 .f32) : List (View.Piece (Elt Ideal) S1x384x4 .f32) :=
  [⟨Rect.unit (s := S1x384x4) ![0, 256, 3] S1x128x1.size inb_S1x384x4_S1x128x1_0_256_3, k0_pay33 (k0_pay42 v17 (k0_pay30 kv k0_pay29)) (lane3 arg2 X2)⟩,
    ⟨Rect.unit (s := S1x384x4) ![0, 256, 2] S1x128x1.size inb_S1x384x4_S1x128x1_0_256_2, k0_pay33 (k0_pay42 v17 (k0_pay30 kv k0_pay29)) (lane2 arg2 X2)⟩,
    ⟨Rect.unit (s := S1x384x4) ![0, 256, 1] S1x128x1.size inb_S1x384x4_S1x128x1_0_256_1, k0_pay33 (k0_pay42 v17 (k0_pay30 kv k0_pay29)) (lane1 arg2 X2)⟩,
    ⟨Rect.unit (s := S1x384x4) ![0, 256, 0] S1x128x1.size inb_S1x384x4_S1x128x1_0_256_0, k0_pay33 (k0_pay42 v17 (k0_pay30 kv k0_pay29)) (lane0 arg2 X2)⟩,
    ⟨Rect.unit (s := S1x384x4) ![0, 128, 3] S1x128x1.size inb_S1x384x4_S1x128x1_0_128_3, k0_pay33 (k0_pay36 v17 (k0_pay30 kv k0_pay29)) (lane3 arg2 X2)⟩,
    ⟨Rect.unit (s := S1x384x4) ![0, 128, 2] S1x128x1.size inb_S1x384x4_S1x128x1_0_128_2, k0_pay33 (k0_pay36 v17 (k0_pay30 kv k0_pay29)) (lane2 arg2 X2)⟩,
    ⟨Rect.unit (s := S1x384x4) ![0, 128, 1] S1x128x1.size inb_S1x384x4_S1x128x1_0_128_1, k0_pay33 (k0_pay36 v17 (k0_pay30 kv k0_pay29)) (lane1 arg2 X2)⟩,
    ⟨Rect.unit (s := S1x384x4) ![0, 128, 0] S1x128x1.size inb_S1x384x4_S1x128x1_0_128_0, k0_pay33 (k0_pay36 v17 (k0_pay30 kv k0_pay29)) (lane0 arg2 X2)⟩,
    ⟨Rect.unit (s := S1x384x4) ![0, 0, 3] S1x128x1.size inb_S1x384x4_S1x128x1_0_0_3, k0_pay33 (k0_pay31 v17 kv k0_pay29) (lane3 arg2 X2)⟩,
    ⟨Rect.unit (s := S1x384x4) ![0, 0, 2] S1x128x1.size inb_S1x384x4_S1x128x1_0_0_2, k0_pay33 (k0_pay31 v17 kv k0_pay29) (lane2 arg2 X2)⟩,
    ⟨Rect.unit (s := S1x384x4) ![0, 0, 1] S1x128x1.size inb_S1x384x4_S1x128x1_0_0_1, k0_pay33 (k0_pay31 v17 kv k0_pay29) (lane1 arg2 X2)⟩,
    ⟨Rect.unit (s := S1x384x4) ![0, 0, 0] S1x128x1.size inb_S1x384x4_S1x128x1_0_0_0, k0_pay33 (k0_pay31 v17 kv k0_pay29) (lane0 arg2 X2)⟩]

/-- The pieces the body stores. -/
theorem kernelRun_eq : (kernelRun (F := Ideal) c i arg1 harg1 arg2 harg2 arg3 harg3 arg4 harg4 arg5 harg5 arg6 harg6 X1 X2).1
    = outPieces arg2 X2 (keepV c i arg1 harg1 arg2 harg2 arg3 harg3 arg4 harg4 arg5 harg5 arg6 harg6 X1 X2) := by
  unfold kernelRun; rfl

section
variable (x1 : Vec Ideal S1x2048x4 .f32) (h1 : arg1.view.read (Elt Ideal) X1 = x1)
  (h2 : ∀ (q : Fin 4) (l : Fin 2048), arg2.view.read (Elt Ideal) X2 (ix3 (0 : Fin 1) q l) = x1 (ix3 (0 : Fin 1) l q))
include h2

theorem lane0_apply (x : Fin 2048) : lane0 arg2 X2 (ix3 0 0 x) = x1 (ix3 (0 : Fin 1) x 0) :=
  (readAt_unit_apply arg2.view _ _ _ X2 _ (ix3 (0 : Fin 1) (0 : Fin 4) x) rfl (fun a => by fin_cases a <;> simp)).trans (h2 _ _)
theorem lane1_apply (x : Fin 2048) : lane1 arg2 X2 (ix3 0 0 x) = x1 (ix3 (0 : Fin 1) x 1) :=
  (readAt_unit_apply arg2.view _ _ _ X2 _ (ix3 (0 : Fin 1) (1 : Fin 4) x) rfl (fun a => by fin_cases a <;> simp)).trans (h2 _ _)
theorem lane2_apply (x : Fin 2048) : lane2 arg2 X2 (ix3 0 0 x) = x1 (ix3 (0 : Fin 1) x 2) :=
  (readAt_unit_apply arg2.view _ _ _ X2 _ (ix3 (0 : Fin 1) (2 : Fin 4) x) rfl (fun a => by fin_cases a <;> simp)).trans (h2 _ _)
theorem lane3_apply (x : Fin 2048) : lane3 arg2 X2 (ix3 0 0 x) = x1 (ix3 (0 : Fin 1) x 3) :=
  (readAt_unit_apply arg2.view _ _ _ X2 _ (ix3 (0 : Fin 1) (3 : Fin 4) x) rfl (fun a => by fin_cases a <;> simp)).trans (h2 _ _)

/-- The output block's entry: the rows' coordinates summed against the rows whose slot is the entry's. -/
theorem outPieces_apply (kv : Vec Ideal S1x2048 .f32) (v : View sig .tc .vmem S1x384x4 .f32) (f : v.ty.Contents (Elt Ideal)) (s : Fin 384) (q : Fin 4)
    (hc : ∀ y : S1x384x4.Idx, ∃ p ∈ outPieces arg2 X2 kv, y ∈ p.1.set) :
    v.read (Elt Ideal) (v.writes (Elt Ideal) f (outPieces arg2 X2 kv)) (ix3 (0 : Fin 1) s q)
      = ∑ x : Fin 2048, ind (k0_pay30 kv k0_pay29 (ix2 0 x) = ((s.1 : ℕ) : EReal)) * x1 (ix3 (0 : Fin 1) x q) := by
  refine (View.read_writes_apply_of_pieces v f (fun y : S1x384x4.Idx => ∑ x : Fin 2048, ind (k0_pay30 kv k0_pay29 (ix2 0 x) = (((y 1).val : ℕ) : EReal)) * x1 (ix3 (0 : Fin 1) x (y 2)))
    (outPieces arg2 X2 kv) ?_ (ix3 (0 : Fin 1) s q) (hc _))
  have key : ∀ (oh : FVec Ideal S128x2048 .f32) (B : ℕ) (row : Vec Ideal S1x1x2048 .f32) (qq : Fin 4)
      (inb : ∀ a, (![0, B, qq.val] : Fin 3 → ℕ) a + S1x128x1.size a ≤ S1x384x4.size a)
      (hoh : ∀ (l : Fin 128) (x : Fin 2048), oh (ix2 l x) = ind (k0_pay30 kv k0_pay29 (ix2 0 x) = ((B + l.1 : ℕ) : EReal)))
      (hrow : ∀ x : Fin 2048, row (ix3 0 0 x) = x1 (ix3 (0 : Fin 1) x qq))
      (x : (Rect.unit (s := S1x384x4) ![0, B, qq.val] S1x128x1.size inb).shape.Idx),
      k0_pay33 oh row x = (fun y : S1x384x4.Idx => ∑ x : Fin 2048, ind (k0_pay30 kv k0_pay29 (ix2 0 x) = (((y 1).val : ℕ) : EReal)) * x1 (ix3 (0 : Fin 1) x (y 2)))
        ((Rect.unit (s := S1x384x4) ![0, B, qq.val] S1x128x1.size inb).emb x) := by
    intro oh B row qq inb hoh hrow x
    obtain ⟨l, rfl⟩ : ∃ l : Fin 128, x = ix3 (0 : Fin 1) l (0 : Fin 1) := ⟨x 1, by
      funext a
      fin_cases a
      · exact Subsingleton.elim (α := Fin 1) _ _
      · rfl
      · exact Subsingleton.elim (α := Fin 1) _ _⟩
    refine (pay33_apply oh row l).trans ?_
    have e1 : (((Rect.unit (s := S1x384x4) ![0, B, qq.val] S1x128x1.size inb).emb (ix3 (0 : Fin 1) l (0 : Fin 1))) 1).val = B + l.1 := by
      show B + 1 * l.1 = _
      omega
    have e2 : ((Rect.unit (s := S1x384x4) ![0, B, qq.val] S1x128x1.size inb).emb (ix3 (0 : Fin 1) l (0 : Fin 1))) 2 = qq := by
      refine Fin.ext ?_
      show qq.1 + 1 * 0 = _
      omega
    dsimp only
    rw [e1, e2]
    exact Finset.sum_congr rfl (fun x _ => by rw [hoh, hrow])
  have h31 : ∀ (l : Fin 128) (x : Fin 2048), k0_pay31 v17 kv k0_pay29 (ix2 l x) = ind (k0_pay30 kv k0_pay29 (ix2 0 x) = ((0 + l.1 : ℕ) : EReal)) :=
    fun l x => (pay31_apply kv l x).trans (by rw [Nat.zero_add])
  intro p hp
  simp only [List.mem_cons, List.not_mem_nil, or_false] at hp
  rcases hp with rfl | rfl | rfl | rfl | rfl | rfl | rfl | rfl | rfl | rfl | rfl | rfl
  · exact key _ 256 _ 3 inb_S1x384x4_S1x128x1_0_256_3 (pay42_apply _) (lane3_apply arg2 X2 x1 h2)
  · exact key _ 256 _ 2 inb_S1x384x4_S1x128x1_0_256_2 (pay42_apply _) (lane2_apply arg2 X2 x1 h2)
  · exact key _ 256 _ 1 inb_S1x384x4_S1x128x1_0_256_1 (pay42_apply _) (lane1_apply arg2 X2 x1 h2)
  · exact key _ 256 _ 0 inb_S1x384x4_S1x128x1_0_256_0 (pay42_apply _) (lane0_apply arg2 X2 x1 h2)
  · exact key _ 128 _ 3 inb_S1x384x4_S1x128x1_0_128_3 (pay36_apply _) (lane3_apply arg2 X2 x1 h2)
  · exact key _ 128 _ 2 inb_S1x384x4_S1x128x1_0_128_2 (pay36_apply _) (lane2_apply arg2 X2 x1 h2)
  · exact key _ 128 _ 1 inb_S1x384x4_S1x128x1_0_128_1 (pay36_apply _) (lane1_apply arg2 X2 x1 h2)
  · exact key _ 128 _ 0 inb_S1x384x4_S1x128x1_0_128_0 (pay36_apply _) (lane0_apply arg2 X2 x1 h2)
  · exact key _ 0 _ 3 inb_S1x384x4_S1x128x1_0_0_3 h31 (lane3_apply arg2 X2 x1 h2)
  · exact key _ 0 _ 2 inb_S1x384x4_S1x128x1_0_0_2 h31 (lane2_apply arg2 X2 x1 h2)
  · exact key _ 0 _ 1 inb_S1x384x4_S1x128x1_0_0_1 h31 (lane1_apply arg2 X2 x1 h2)
  · exact key _ 0 _ 0 inb_S1x384x4_S1x128x1_0_0_0 h31 (lane0_apply arg2 X2 x1 h2)

include h1

/-- The keep vector after the loop holds one exactly at the kept rows. -/
theorem keepV_apply (l : Fin 2048) :
    keepV c i arg1 harg1 arg2 harg2 arg3 harg3 arg4 harg4 arg5 harg5 arg6 harg6 X1 X2 (ix2 0 l) = ind (Kept (ovl x1) l) := by
  refine (readAt_unit_apply arg4.view _ _ _ _ _ (ix2 (0 : Fin 1) l) rfl (fun a => by fin_cases a <;> simp)).trans ?_
  have ht : Scf.trips k0_t1_loop.lb k0_t1_loop.ub k0_t1_loop.st = 16 := by decide +kernel
  rw [View.writes_append, ht]
  refine (pb_value c i arg1 harg1 arg2 harg2 arg3 harg3 arg4 harg4 arg5 harg5 arg6 harg6 X1 X2 x1 h1 h2 _ _ _ _ (lane0_apply arg2 X2 x1 h2)
    (lane1_apply arg2 X2 x1 h2) (lane2_apply arg2 X2 x1 h2) (lane3_apply arg2 X2 x1 h2) _ ?_ 16 le_rfl l).trans ?_
  · intro x
    rw [View.read_writes_cons_unit_of_mem arg4.view _ inb_S1x2048_S1x2048_0_0 _ [] (ix2 (0 : Fin 1) x) (ix2 (0 : Fin 1) x) rfl (Fin.forall_fin_two.mpr ⟨by simp, by simp⟩)]
    pointwise [k0_pay24]
  · exact ind_congr ⟨fun h => h.2, fun h => ⟨by omega, h⟩⟩

end

/-- The marker of the lanes that hold no slot is none of the slots. -/
theorem marker_ne (s : ℕ) (hs : s < 384) : Ideal.ofBits FTy.f32 1315859240#32 ≠ ((s : ℕ) : EReal) := by
  have e : Ideal.ofBits FTy.f32 1315859240#32 = ((1000000000 : ℕ) : EReal) := by
    simp [Ideal.ofBits, Ideal.ieee, -EReal.coe_mul]; norm_num; rfl
  rw [e]
  intro h
  have := Nat.cast_injective (R := EReal) h
  omega

/-- Entry `(s, q)` of the block the body leaves: coordinate `q` of the row in slot `s`. -/
theorem outAt_apply (c : Dev nD) (t : Fin cfg0.N) (x1 : Vec Ideal S1x2048x4 .f32) (x2 : Vec Ideal S1x4x2048 .f32)
    (h : ∀ (q : Fin 4) (l : Fin 2048), x2 (ix3 (0 : Fin 1) q l) = x1 (ix3 (0 : Fin 1) l q)) (s : Fin 384) (hs : s.1 < 300) (q : Fin 4) :
    outAt c t x1 x2 (ix3 (0 : Fin 1) s q)
      = x1 (ix3 (0 : Fin 1) (⟨(src (Kept (ovl x1)) 2000 ⟨s.1, by omega⟩).1, by omega⟩ : Fin 2048) q) := by
  have h1 := (hs0 t).read_unread x1
  have h2 : ∀ (q : Fin 4) (l : Fin 2048), (ms1 t).view.read (Elt Ideal) ((hs1 t).unread x2) (ix3 (0 : Fin 1) q l) = x1 (ix3 (0 : Fin 1) l q) :=
    fun q l => (congrFun ((hs1 t).read_unread x2) _).trans (h q l)
  unfold outAt piecesAt
  have hc := cover_out (F := Ideal) c (grid0.coords t) (ms0 t) (hs0 t) (ms1 t) (hs1 t) (ms2 t) (hs2 t) sc0 (Memref.isWhole_whole _) sc1 (Memref.isWhole_whole _)
    sc2 (Memref.isWhole_whole _) ((hs0 t).unread x1) ((hs1 t).unread x2)
  rw [kernelRun_eq] at hc ⊢
  refine (outPieces_apply (ms1 t) ((hs1 t).unread x2) x1 h2 _ VO _ s q hc).trans ?_
  refine sum_onehot _ _ _ (fun x => ?_)
  rw [pay30_apply (Kept (ovl x1)) _ (keepV_apply c _ (ms0 t) (hs0 t) (ms1 t) (hs1 t) (ms2 t) (hs2 t) sc0 _ sc1 _ sc2 _ _ _ x1 h1 h2)]
  split_ifs with hx
  · rw [Nat.cast_inj]
    constructor
    · intro hslot
      exact Fin.ext (eq_src (s := ⟨s.1, by omega⟩) hx hslot)
    · intro hsrc
      rw [hsrc]
      exact slot_src _
  · refine ⟨fun hm => absurd hm (marker_ne _ s.2), fun hsrc => absurd ?_ hx⟩
    rw [hsrc]
    exact (src (Kept (ovl x1)) 2000 ⟨s.1, by omega⟩).2

end Cert.KernelIdeal.Hand

end
-- ==== Proof.Det.lean ====
/-
  The detections both programs return, as one function of the boxes: slot `s` of an image holds the box at the row that comes
  `s`-th in greedy suppression's order.
-/
module

public import proofs.«01_k».proof.Proof.Scalars

@[expose] public section

noncomputable section

namespace Cert.Nms

open Idealize.ShloMosaic

/-- Box `i` of an image's 2000 boxes, and zero past them. -/
def rowOf (B : Fin 2000 → Fin 4 → EReal) (i : ℕ) : Fin 4 → EReal := fun q => if h : i < 2000 then B ⟨i, h⟩ q else 0

/-- Boxes `i` and `j` of an image overlap by more than the threshold. -/
def ovB (B : Fin 2000 → Fin 4 → EReal) (i j : ℕ) : Prop := Over (rowOf B i) (rowOf B j)

/-- The row that fills slot `s` of an image's detections. -/
def pick (B : Fin 2000 → Fin 4 → EReal) (s : Fin 300) : Fin 2000 := src (Kept (ovB B)) 2000 ⟨s.1, by omega⟩

/-- One line of the result: the image's number, then the picked box. -/
def detOf (B : Fin 4 → Fin 2000 → Fin 4 → EReal) (b : Fin 4) (s : Fin 300) (q : Fin 5) : EReal :=
  if h : q.1 = 0 then ((b.1 : ℕ) : EReal) else B b (pick (B b) s) ⟨q.1 - 1, by omega⟩

end Cert.Nms

end
-- ==== Proof.KernelValue.lean ====
/-
  The kernel's result as a function of the boxes its host operations compute.
-/
module

public import proofs.«01_k».proof.Proof.OutValue
public import proofs.«01_k».proof.Proof.Det
public import Idealize.ShloMosaic.Lib.StableHlo.ReadAt

@[expose] public section

set_option maxRecDepth 16384

noncomputable section

namespace Cert.KernelIdeal.Hand

open Cert.KernelIdeal Cert.KernelIdeal.Gen Cert.Nms
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- Each window's block at grid point `t` is member `t` of its array. -/
theorem idx_in : ∀ t : Fin cfg0.N, win0_0.index t (0 : Fin 3) = t.1 ∧ win0_0.index t (1 : Fin 3) = 0 ∧ win0_0.index t (2 : Fin 3) = 0 :=
  (by decide +kernel : ∀ t : Fin grid0.N, _)
theorem idx_inT : ∀ t : Fin cfg0.N, win0_1.index t (0 : Fin 3) = t.1 ∧ win0_1.index t (1 : Fin 3) = 0 ∧ win0_1.index t (2 : Fin 3) = 0 :=
  (by decide +kernel : ∀ t : Fin grid0.N, _)
theorem idx_out : ∀ t : Fin cfg0.N, win0_2.index t (0 : Fin 3) = t.1 ∧ win0_2.index t (1 : Fin 3) = 0 ∧ win0_2.index t (2 : Fin 3) = 0 :=
  (by decide +kernel : ∀ t : Fin grid0.N, _)

/-- The image of a grid point. -/
def img (t : Fin cfg0.N) : Fin 4 := ⟨t.1, lt_of_lt_of_eq t.2 N_0⟩

/-- The grid point of an image. -/
def pt (b : Fin 4) : Fin cfg0.N := ⟨b.1, lt_of_lt_of_eq b.2 N_0.symm⟩

theorem img_pt (b : Fin 4) : img (pt b) = b := rfl

theorem emb_in (t : Fin cfg0.N) (j : S1x2048x4.Idx) : ((cfg0.win 0).blk t).view.emb j = ix3 (img t) (j 1) (j 2) := by
  obtain ⟨e0, e1, e2⟩ := idx_in t
  have h0 : (j 0).val < 1 := (j 0).2
  funext a; apply Fin.ext
  match a with
  | ⟨0, _⟩ => show win0_0.index t (0 : Fin 3) * 1 + 1 * (j 0).val = t.1; omega
  | ⟨1, _⟩ => show win0_0.index t (1 : Fin 3) * 2048 + 1 * (j 1).val = (j 1).val; omega
  | ⟨2, _⟩ => show win0_0.index t (2 : Fin 3) * 4 + 1 * (j 2).val = (j 2).val; omega

theorem emb_inT (t : Fin cfg0.N) (j : S1x4x2048.Idx) : ((cfg0.win 1).blk t).view.emb j = ix3 (img t) (j 1) (j 2) := by
  obtain ⟨e0, e1, e2⟩ := idx_inT t
  have h0 : (j 0).val < 1 := (j 0).2
  funext a; apply Fin.ext
  match a with
  | ⟨0, _⟩ => show win0_1.index t (0 : Fin 3) * 1 + 1 * (j 0).val = t.1; omega
  | ⟨1, _⟩ => show win0_1.index t (1 : Fin 3) * 4 + 1 * (j 1).val = (j 1).val; omega
  | ⟨2, _⟩ => show win0_1.index t (2 : Fin 3) * 2048 + 1 * (j 2).val = (j 2).val; omega

theorem emb_out (t : Fin cfg0.N) (j : S1x384x4.Idx) : ((cfg0.win 2).blk t).view.emb j = ix3 (img t) (j 1) (j 2) := by
  obtain ⟨e0, e1, e2⟩ := idx_out t
  have h0 : (j 0).val < 1 := (j 0).2
  funext a; apply Fin.ext
  match a with
  | ⟨0, _⟩ => show win0_2.index t (0 : Fin 3) * 1 + 1 * (j 0).val = t.1; omega
  | ⟨1, _⟩ => show win0_2.index t (1 : Fin 3) * 384 + 1 * (j 1).val = (j 1).val; omega
  | ⟨2, _⟩ => show win0_2.index t (2 : Fin 3) * 4 + 1 * (j 2).val = (j 2).val; omega

theorem iblk0_apply (c : Dev nD) (t : Fin cfg0.N) (j : S1x2048x4.Idx) :
    iblk m c 0 t j = V m c main_v126 (ix3 (img t) (j 1) (j 2)) := by
  show V m c main_v126 (((cfg0.win 0).blk t).view.emb j) = _
  rw [emb_in]
  rfl

theorem iblk1_apply (c : Dev nD) (t : Fin cfg0.N) (j : S1x4x2048.Idx) :
    iblk m c 1 t j = V m c main_v127 (ix3 (img t) (j 1) (j 2)) := by
  show V m c main_v127 (((cfg0.win 1).blk t).view.emb j) = _
  rw [emb_inT]
  rfl

/-- The output array after the run. -/
def Gout (c : Dev nD) : Vec Ideal S4x384x4 .f32 := fun i =>
  outAt c (pt (i 0)) (iblk m c 0 (pt (i 0))) (iblk m c 1 (pt (i 0))) (ix3 (0 : Fin 1) (i 1) (i 2))

theorem idx_one (j : S1x384x4.Idx) : j = ix3 (0 : Fin 1) (j 1) (j 2) := by
  have h0 : (j 0).val < 1 := (j 0).2
  funext a; apply Fin.ext
  match a with
  | ⟨0, _⟩ => show (j 0).val = 0; omega
  | ⟨1, _⟩ => rfl
  | ⟨2, _⟩ => rfl

theorem flushed_eq (c : Dev nD) (t : Fin cfg0.N) :
    (dats m 0 c).flushed 2 t = ((cfg0.win 2).blk t).view.read (Elt Ideal) (Gout m c) := by
  funext j
  show (dats m 0 c).after 2 t j = Gout m c (((cfg0.win 2).blk t).view.emb j)
  rw [after_2, emb_out]
  show _ = outAt c (pt (img t)) (iblk m c 0 (pt (img t))) (iblk m c 1 (pt (img t))) (ix3 (0 : Fin 1) (j 1) (j 2))
  exact congrArg _ (idx_one j)

theorem covered (i : S4x384x4.Idx) :
    ∃ t : Fin cfg0.N, (cfg0.win 2).flush t = true ∧ i ∈ ((cfg0.win 2).blk t).view.set :=
  ⟨pt (i 0), flush0_2 _, by
    have h := ((cfg0.win 2).blk (pt (i 0))).view.emb_mem_set (ix3 (0 : Fin 1) (i 1) (i 2))
    rw [emb_out] at h
    have e : (ix3 (img (pt (i 0))) (i 1) (i 2) : S4x384x4.Idx) = i := by
      funext a; fin_cases a <;> rfl
    exact e ▸ h⟩

theorem final (c : Dev nD) : (dats m 0 c).arrAt 2 cfg0.N = Gout m c :=
  (dats m 0 c).arrAt_eq_of_cover 2 (Gout m c) (fun t _ => flushed_eq m c t) covered

/-- The buffers after the operations that the reference shares. -/
def preV (c : Dev nD) : Valuation τ sig (Elt Ideal) :=
  after hostOps0_15 (after hostOps0_14 (after hostOps0_13 (after hostOps0_12 (after hostOps0_11 (after hostOps0_10 (after hostOps0_9
    (after hostOps0_8 (after hostOps0_7 (after hostOps0_6 (after hostOps0_5 (after hostOps0_4 (after hostOps0_3 (after hostOps0_2
      (after hostOps0_1 (after hostOps0 fun b => m (c, b))))))))))))))))

theorem V0_eq (c : Dev nD) : V0 m c = after hostOps0_18 (after hostOps0_17 (after hostOps0_16 (preV m c))) := by
  unfold V0 preV
  simp only [List.flatten_cons, List.flatten_nil, List.append_nil, after_append]

/-- The kernel's boxes. -/
def boxes (c : Dev nD) (b : Fin 4) (i : Fin 2000) (q : Fin 4) : EReal :=
  (preV m c (Proc.devRef .tc main_v125) : Vec Ideal S4x2000x4 .f32) (ix3 b i q)

theorem V_v126 (c : Dev nD) (b : Fin 4) (i : Fin 2048) (q : Fin 4) :
    V m c main_v126 (ix3 b i q) = if h : i.1 < 2000 then boxes m c b ⟨i.1, h⟩ q else 0 := by
  show V0 m c (Proc.devRef .tc main_v126) (ix3 b i q) = _
  rw [V0_eq]
  unfold boxes
  generalize preV m c = W
  after_reads_at
  have e : (FloatOps.sitofp FTy.f32 0#32 : Ideal FTy.f32) = 0 := (sitofp_ofNat (n := 0) (by norm_num)).trans (by simp)
  rw [e]

theorem V_v127 (c : Dev nD) (b : Fin 4) (i : Fin 2048) (q : Fin 4) :
    V m c main_v127 (ix3 b q i) = V m c main_v126 (ix3 b i q) := by
  show V0 m c (Proc.devRef .tc main_v127) (ix3 b q i) = V0 m c (Proc.devRef .tc main_v126) (ix3 b i q)
  rw [V0_eq]
  generalize after hostOps0_17 (after hostOps0_16 (preV m c)) = W
  after_reads_at

theorem bx_iblk (c : Dev nD) (b : Fin 4) : bx (iblk m c 0 (pt b)) = rowOf (boxes m c b) := by
  funext j q
  unfold bx rowOf
  by_cases h : j < 2000
  · rw [dif_pos (show j < 2048 by omega), dif_pos h, iblk0_apply]
    show V m c main_v126 (ix3 b (⟨j, by omega⟩ : Fin 2048) q) = _
    rw [V_v126, dif_pos h]
  · rw [dif_neg h]
    by_cases h' : j < 2048
    · rw [dif_pos h', iblk0_apply]
      show V m c main_v126 (ix3 b (⟨j, h'⟩ : Fin 2048) q) = _
      rw [V_v126, dif_neg h]
    · rw [dif_neg h']

/-- The region's output at the slots the program keeps: the picked boxes. -/
theorem Gout_apply (c : Dev nD) (b : Fin 4) (s : Fin 384) (hs : s.1 < 300) (q : Fin 4) :
    Gout m c (ix3 b s q) = boxes m c b (pick (boxes m c b) ⟨s.1, hs⟩) q := by
  show outAt c (pt b) (iblk m c 0 (pt b)) (iblk m c 1 (pt b)) (ix3 (0 : Fin 1) s q) = _
  rw [outAt_apply c (pt b) _ _ (fun q l => by
    rw [iblk0_apply, iblk1_apply]
    exact V_v127 m c b l q) s hs q]
  have e : ovl (iblk m c 0 (pt b)) = ovB (boxes m c b) := by
    unfold ovl ovB
    rw [bx_iblk]
  rw [iblk0_apply]
  simp only [e]
  show V m c main_v126 (ix3 b (⟨(pick (boxes m c b) ⟨s.1, hs⟩).1, _⟩ : Fin 2048) q) = _
  rw [V_v126, dif_pos (pick (boxes m c b) ⟨s.1, hs⟩).2]

/-- The result buffer after the last host operations, the region's output at `X`. -/
theorem tail_apply (W : Valuation τ sig (Elt Ideal)) (b : Fin 4) (s : Fin 300) (q : Fin 5) :
    after hostOps1 W (Proc.devRef .tc main_v134) (ix2 (⟨b.1 * 300 + s.1, by omega⟩ : Fin 1200) q)
      = if h : q.1 = 0 then ((b.1 : ℕ) : EReal) else
        (W (Proc.devRef .tc main_v128) : Vec Ideal S4x384x4 .f32) (ix3 b (⟨s.1, by omega⟩ : Fin 384) (⟨q.1 - 1, by omega⟩ : Fin 4)) := by
  after_reads_at
  have h1 : upto hostOps1 W 4 (Proc.devRef .tc main_v132) (ix3 b s (0 : Fin 1)) = ((b.1 : ℕ) : EReal) := by
    after_reads_at
    exact sitofp_ofNat (by omega)
  have h2 : ∀ q' : Fin 4, upto hostOps1 W 4 (Proc.devRef .tc main_v129) (ix3 b s q')
      = (W (Proc.devRef .tc main_v128) : Vec Ideal S4x384x4 .f32) (ix3 b (⟨s.1, by omega⟩ : Fin 384) q') := by
    intro q'
    after_reads_at
  by_cases h : q.1 = 0
  · rw [dif_pos (show q.1 < 1 by omega), dif_pos h, ← h1]
    congr 2
    exact Fin.ext h
  · rw [dif_neg (show ¬ q.1 < 1 by omega), dif_neg h]
    exact h2 _

theorem arr_inj : Function.Injective (Pipeline.arrRef spec0) := by
  intro a b h
  fin_cases a <;> fin_cases b <;> first | rfl | exact absurd h (by decide)

/-- The result buffer as the program leaves it. -/
def res (m : (ℓ : Loc nD τ sig) → Buf (Elt Ideal) ℓ) (c : Dev nD) : Buf (Elt Ideal) ((c.tc : Thread nD τ).loc main_v134) :=
  Pipeline.afterTail₀ cfgs (dats m) 0 (V0 m) [hostOps1] c main_v134

theorem res_apply (c : Dev nD) (b : Fin 4) (s : Fin 300) (q : Fin 5) :
    (res m c : Vec Ideal S1200x5 .f32) (ix2 (⟨b.1 * 300 + s.1, by omega⟩ : Fin 1200) q) = detOf (boxes m c) b s q := by
  unfold res Pipeline.afterTail₀
  simp only [List.flatten_cons, List.flatten_nil, List.append_nil]
  rw [tail_apply]
  unfold detOf
  by_cases h : q.1 = 0
  · rw [dif_pos h, dif_pos h]
  · rw [dif_neg h, dif_neg h]
    have e : Pipeline.withArrays spec0 c (V0 m c) (fun w => (dats m 0 c).arrAt w cfg0.N) (Proc.devRef .tc main_v128) = Gout m c :=
      (Pipeline.withArrays_arr spec0 arr_inj c (V0 m c) (fun w => (dats m 0 c).arrAt w cfg0.N) 2).trans (final m c)
    refine (congrFun e _).trans ?_
    exact Gout_apply m c b _ s.2 _

/-- The program ends with `res` in its result, its arguments unchanged. -/
theorem run : θ_run defs (onTc (τ := τ) (main (F := Ideal))) ⟨m, fun _ => 0, ρ⟩ (fun r => ∀ c : Dev nD,
      r.2.mem ((c.tc : Thread nD τ).loc main_v134) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r hr c => ?_) (run_main m ρ)
  have h := hr.1
  exact ⟨(h c).2 main_v134 (Pipeline.mem_restRefs_of main_v134 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩

end Cert.KernelIdeal.Hand

end
-- ==== Proof.RefIou.lean ====
/-
  What the reference's loop starts from: the overlap table of the boxes, the row numbers, a zero counter, no row kept.
-/
module

public import proofs.«01_k».proof.Proof.FrameReference
public import proofs.«01_k».proof.Proof.Det
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Nms
open Idealize.ShloMosaic Idealize.ShloMosaic.TcCoe Idealize.ShloMosaic.StableHlo
open Idealize.SL Idealize.SL.Sem

/-- Coordinate `q` of box `i` of image `b`, read from buffer contents. -/
abbrev bxW (W : Valuation τ sig (Elt Ideal)) (b : Fin 4) (i : Fin 2000) (q : Fin 4) : EReal :=
  (W (Proc.devRef .tc main_v125) : Vec Ideal S4x2000x4 .f32) (ix3 b i q)

/-- The operations between the boxes and the loop. -/
abbrev mid (W : Valuation τ sig (Elt Ideal)) : Valuation τ sig (Elt Ideal) :=
  after hostOps0_20 (after hostOps0_19 (after hostOps0_18 (after hostOps0_17 (after hostOps0_16 W))))

theorem mid_idx (W : Valuation τ sig (Elt Ideal)) (j : Fin 2000) :
    (mid W (Proc.devRef .tc main_v181_1) : Vec Ideal S2000 .i32) (ix1 j) = BitVec.ofNat 32 j.1 := by
  after_reads_at
  rfl

theorem mid_i (W : Valuation τ sig (Elt Ideal)) :
    (mid W (Proc.devRef .tc main_v181_3) : Vec Ideal S_ .i32) = constantI S_ 32 0#32 := by
  funext x
  after_reads_at
  rfl

theorem mid_keep (W : Valuation τ sig (Elt Ideal)) (b : Fin 4) (j : Fin 2000) :
    (mid W (Proc.devRef .tc main_v181_4) : Vec Ideal S4x2000 .i1) (ix2 b j) = 0#1 := by
  after_reads_at
  rfl

/-- The overlap table's entry of two boxes. -/
theorem mid_iou (W : Valuation τ sig (Elt Ideal)) (b : Fin 4) (i j : Fin 2000) :
    (mid W (Proc.devRef .tc main_v181_0) : Vec Ideal S4x2000x2000 .f32) (ix3 b i j)
      = Ideal.div (inter (bxW W b i) (bxW W b j)) (area (bxW W b i) + area (bxW W b j) - inter (bxW W b i) (bxW W b j) + eps) := by
  after_reads_at
  simp only [id_eq]
  pointwise
  simp only [inter, area, eps, max_comm _ (0 : EReal)]

end Cert.ReferenceIdeal.Hand

end
-- ==== Proof.RefOps.lean ====
/-
  Three array operations of the reference read at an index: the write of one column of the kept rows, the test whether any
  entry of a row is set, and the row of the overlap table a trip looks at.
-/
module

public import proofs.«01_k».proof.Proof.RefIou
public import Idealize.ShloMosaic.Lib.Routing.OpsSet

@[expose] public section

set_option maxRecDepth 16384

noncomputable section

namespace Cert.ReferenceIdeal.Hand

open Cert.ReferenceIdeal Cert.ReferenceIdeal.Gen Cert.ReferenceIdeal.Value Cert.Nms
open Idealize.ShloMosaic Idealize.ShloMosaic.TcCoe Idealize.ShloMosaic.StableHlo
open Idealize.SL Idealize.SL.Sem

theorem col_window0 (b : Fin 4) : scatter_S4x2000_S1_S4_0_1_1_0.window (ix1 b) (0 : Fin 2) = b.1 := rfl
theorem col_window1 (b : Fin 4) : scatter_S4x2000_S1_S4_0_1_1_0.window (ix1 b) (1 : Fin 2) = 0 := rfl
theorem col_start0 (b : Fin 4) (idx : IVec S1 32) : scatter_S4x2000_S1_S4_0_1_1_0.start (ix1 b) idx (0 : Fin 2) = 0 := rfl
theorem col_start1 (b : Fin 4) (idx : IVec S1 32) :
    scatter_S4x2000_S1_S4_0_1_1_0.start (ix1 b) idx (1 : Fin 2) = (idx (ix1 (0 : Fin 1))).toInt := by
  unfold ScatterDims.start
  rw [dif_pos (by decide)]
  refine congrArg (fun k => (idx k).toInt) ?_
  funext a
  exact Fin.ext (by
    have h : ∀ (a : Fin 1) (u v : Fin (S1.size a)), u.1 = v.1 := by decide
    exact h a _ _)

/-- An index into one axis is its coordinate. -/
theorem eq_ix1 (k : S4.Idx) : ∃ b : Fin 4, k = ix1 b := by
  refine ⟨k 0, ?_⟩
  funext a
  match a with
  | ⟨0, _⟩ => rfl

theorem eq_ix2 (k : S4x2000.Idx) : ∃ (b : Fin 4) (j : Fin 2000), k = ix2 b j := by
  refine ⟨k 0, k 1, ?_⟩
  funext a
  match a with
  | ⟨0, _⟩ => rfl
  | ⟨1, _⟩ => rfl

/-- Where update `b` of the column write lands. -/
theorem col_result (idx : IVec S1 32) (n : ℕ) (hn : n < 2000) (hi : (idx (ix1 (0 : Fin 1))).toInt = (n : ℤ)) (b : Fin 4) :
    scatter_S4x2000_S1_S4_0_1_1_0.resultIdx? (ix1 b) idx = some (ix2 b ⟨n, hn⟩) := by
  unfold ScatterDims.resultIdx?
  have hb := b.2
  have hs : ∀ a : Fin 2, 0 ≤ scatter_S4x2000_S1_S4_0_1_1_0.start (ix1 b) idx a + scatter_S4x2000_S1_S4_0_1_1_0.window (ix1 b) a
      ∧ scatter_S4x2000_S1_S4_0_1_1_0.start (ix1 b) idx a + scatter_S4x2000_S1_S4_0_1_1_0.window (ix1 b) a < S4x2000.size a := by
    intro a
    match a with
    | ⟨0, _⟩ =>
      show 0 ≤ scatter_S4x2000_S1_S4_0_1_1_0.start (ix1 b) idx (0 : Fin 2) + (scatter_S4x2000_S1_S4_0_1_1_0.window (ix1 b) (0 : Fin 2) : ℤ)
        ∧ scatter_S4x2000_S1_S4_0_1_1_0.start (ix1 b) idx (0 : Fin 2) + (scatter_S4x2000_S1_S4_0_1_1_0.window (ix1 b) (0 : Fin 2) : ℤ) < (4 : ℤ)
      rw [col_start0, col_window0]; omega
    | ⟨1, _⟩ =>
      show 0 ≤ scatter_S4x2000_S1_S4_0_1_1_0.start (ix1 b) idx (1 : Fin 2) + (scatter_S4x2000_S1_S4_0_1_1_0.window (ix1 b) (1 : Fin 2) : ℤ)
        ∧ scatter_S4x2000_S1_S4_0_1_1_0.start (ix1 b) idx (1 : Fin 2) + (scatter_S4x2000_S1_S4_0_1_1_0.window (ix1 b) (1 : Fin 2) : ℤ) < (2000 : ℤ)
      rw [col_start1, col_window1, hi]; omega
  rw [dif_pos hs]
  refine congrArg some (funext fun a => Fin.ext ?_)
  match a with
  | ⟨0, _⟩ =>
    show (scatter_S4x2000_S1_S4_0_1_1_0.start (ix1 b) idx (0 : Fin 2) + (scatter_S4x2000_S1_S4_0_1_1_0.window (ix1 b) (0 : Fin 2) : ℤ)).toNat = b.1
    rw [col_start0, col_window0]; omega
  | ⟨1, _⟩ =>
    show (scatter_S4x2000_S1_S4_0_1_1_0.start (ix1 b) idx (1 : Fin 2) + (scatter_S4x2000_S1_S4_0_1_1_0.window (ix1 b) (1 : Fin 2) : ℤ)).toNat = n
    rw [col_start1, col_window1, hi]; omega

/-- The column write: column `n` gets the updates, the others stay. -/
theorem scatter_col (x0 : IVec S4x2000 1) (idx : IVec S1 32) (upd : IVec S4 1) (n : ℕ) (hn : n < 2000)
    (hi : (idx (ix1 (0 : Fin 1))).toInt = (n : ℤ)) (b : Fin 4) (j : Fin 2000) :
    Host.scatter scatter_S4x2000_S1_S4_0_1_1_0 (fun _ y => y) x0 idx upd (ix2 b j) = if j.1 = n then upd (ix1 b) else x0 (ix2 b j) := by
  have key : ∀ k : S4.Idx, scatter_S4x2000_S1_S4_0_1_1_0.resultIdx? k idx = some (ix2 b j) → k = ix1 b ∧ j.1 = n := by
    intro k hk
    obtain ⟨b', rfl⟩ := eq_ix1 k
    rw [col_result idx n hn hi] at hk
    have h := Option.some.inj hk
    have h0 : b' = b := congrFun h (0 : Fin 2)
    have h1 : (⟨n, hn⟩ : Fin 2000) = j := congrFun h (1 : Fin 2)
    exact ⟨by rw [h0], by rw [← h1]⟩
  split
  · next h =>
    refine Routing.scatter_set_hit _ x0 idx upd (ix2 b j) (upd (ix1 b)) (fun k hk => by rw [(key k hk).1]) (ix1 b) ?_
    rw [col_result idx n hn hi]
    exact congrArg some (congrArg (ix2 b) (Fin.ext h.symm))
  · next h =>
    exact Routing.scatter_set_miss _ x0 idx upd (ix2 b j) (fun k hk => h (key k hk).2)

theorem foldl_ori {α : Type} (f : α → BitVec 1) : ∀ (l : List α) (r : BitVec 1),
    l.foldl (fun r n => IntOp.ori r (f n)) r = 1#1 ↔ r = 1#1 ∨ ∃ n ∈ l, f n = 1#1
  | [], r => by simp
  | a :: l, r => by
    have hor : ∀ x y : BitVec 1, IntOp.ori x y = 1#1 ↔ x = 1#1 ∨ y = 1#1 := by decide
    rw [List.foldl_cons, foldl_ori f l, hor]
    simp only [List.mem_cons, exists_eq_or_imp, or_assoc]

theorem drop_row (b : Fin 4) (j : Fin 2000) : reducesTo_S4x2000_S4_d1.drop (ix2 b j) = ix1 b := by
  funext a
  match a with
  | ⟨0, _⟩ => rfl

/-- The test whether any entry of a row is set. -/
theorem reduce_any (x : IVec S4x2000 1) (b : Fin 4) :
    Host.reduce IntOp.ori x (constantI S_ 1 0#1) reducesTo_S4x2000_S4_d1 h_S_ (ix1 b) = 1#1 ↔ ∃ j : Fin 2000, x (ix2 b j) = 1#1 := by
  unfold Host.reduce
  rw [foldl_ori (fun n => x (S4x2000.rowMajor.symm n))]
  constructor
  · rintro (h | ⟨n, hn, h⟩)
    · exact absurd h (by decide)
    · have hd : reducesTo_S4x2000_S4_d1.drop (S4x2000.rowMajor.symm n) = ix1 b := by simpa using (List.mem_filter.1 hn).2
      obtain ⟨b', j, e⟩ := eq_ix2 (S4x2000.rowMajor.symm n)
      rw [e, drop_row] at hd
      have h0 : b' = b := congrFun hd (0 : Fin 1)
      exact ⟨j, by rw [← h0, ← e]; exact h⟩
  · rintro ⟨j, h⟩
    refine Or.inr ⟨S4x2000.rowMajor (ix2 b j), List.mem_filter.2 ⟨List.mem_finRange _, ?_⟩, ?_⟩
    · rw [Equiv.symm_apply_apply, drop_row]; simp
    · rw [Equiv.symm_apply_apply]; exact h

/-- The row of the overlap table a trip looks at. -/
theorem slice_row (x : Vec Ideal S4x2000x2000 .f32) (start : Fin 3 → ℤ) (n : ℕ) (hn : n < 2000) (h0 : start 0 = 0) (h1 : start 1 = n)
    (h2 : start 2 = 0) (b : Fin 4) (j : Fin 2000) :
    Host.dynamicSlice S4x1x2000 x start sliceFits_S4x2000x2000_S4x1x2000 (ix3 b 0 j) = x (ix3 b ⟨n, hn⟩ j) := by
  unfold Host.dynamicSlice extractStridedSlice
  refine congrArg x (funext fun a => Fin.ext ?_)
  match a with
  | ⟨0, _⟩ =>
    show (min (max (start 0) 0) ((4 - 4 : ℕ) : ℤ)).toNat + b.1 = b.1
    rw [h0]; simp
  | ⟨1, _⟩ =>
    show (min (max (start 1) 0) ((2000 - 1 : ℕ) : ℤ)).toNat + 0 = n
    rw [h1]; omega
  | ⟨2, _⟩ =>
    show (min (max (start 2) 0) ((2000 - 2000 : ℕ) : ℤ)).toNat + j.1 = j.1
    rw [h2]; simp

end Cert.ReferenceIdeal.Hand

end
-- ==== Proof.RefLoop.lean ====
/-
  The reference's loop: before trip `n` the rows below `n` carry whether greedy suppression keeps them, and the others carry zero.
-/
module

public import proofs.«01_k».proof.Proof.RefOps

@[expose] public section

set_option maxRecDepth 16384

noncomputable section

namespace Cert.ReferenceIdeal.Hand

open Cert.ReferenceIdeal Cert.ReferenceIdeal.Gen Cert.ReferenceIdeal.Value Cert.Nms
open Idealize.ShloMosaic Idealize.ShloMosaic.TcCoe Idealize.ShloMosaic.StableHlo
open Idealize.SL Idealize.SL.Sem

/-- What the carried buffers hold before trip `n`, for the overlap table `T` and its thresholding `ov`. -/
structure LoopAt (T : Fin 4 → Fin 2000 → Fin 2000 → EReal) (ov : Fin 4 → ℕ → ℕ → Prop) (n : ℕ) (V : Valuation τ sig (Elt Ideal)) : Prop where
  rows : ∀ j : Fin 2000, (V (Proc.devRef .tc main_v181_1) : Vec Ideal S2000 .i32) (ix1 j) = BitVec.ofNat 32 j.1
  cnt : (V (Proc.devRef .tc main_v181_3) : Vec Ideal S_ .i32) = constantI S_ 32 (BitVec.ofNat 32 n)
  iou : ∀ b i j, (V (Proc.devRef .tc main_v181_0) : Vec Ideal S4x2000x2000 .f32) (ix3 b i j) = T b i j
  keep : ∀ (b : Fin 4) (j : Fin 2000), (V (Proc.devRef .tc main_v181_4) : Vec Ideal S4x2000 .i1) (ix2 b j) = 1#1 ↔ j.1 < n ∧ Kept (ov b) j.1

/-- A row number is not negative, so the wrapping of negative numbers leaves it. -/
theorem wrap_ofNat {n : ℕ} (hn : n < 2000) (x : BitVec 32) :
    Scalar.select (IntOp.cmpi .slt (BitVec.ofNat 32 n) 0#32) x (BitVec.ofNat 32 n) = BitVec.ofNat 32 n := by
  unfold Scalar.select
  rw [if_neg]
  intro h
  rw [show (0#32 : BitVec 32) = BitVec.ofNat 32 0 from rfl, slt_ofNat (by omega) (by omega)] at h
  simp at h

/-- One trip's new kept rows, from the overlap table, the row numbers, the trip's number and the kept rows so far. -/
def tripKeep (iou : Vec Ideal S4x2000x2000 .f32) (rows : IVec S2000 32) (i0 : IVec S_ 32) (k0 : IVec S4x2000 1) : IVec S4x2000 1 :=
  Host.scatter scatter_S4x2000_S1_S4_0_1_1_0 (fun _ y => y) k0
    (broadcastInDim S1 ![] bcast_S_S1 (select (cmpi .slt i0 (constantI S_ 32 0#32)) (addi i0 (constantI S_ 32 2000#32)) i0))
    (noti (Host.reduce IntOp.ori
      (andi
        (andi
          (cmpf .ogt
            (shapeCast S4x2000
              (Host.dynamicSlice S4x1x2000 iou
                (fun k => (((![select (cmpi .slt (constantI S_ 32 0#32) (constantI S_ 32 0#32)) (addi (constantI S_ 32 0#32) (constantI S_ 32 4#32)) (constantI S_ 32 0#32),
                  select (cmpi .slt i0 (constantI S_ 32 0#32)) (addi i0 (constantI S_ 32 2000#32)) i0,
                  select (cmpi .slt (constantI S_ 32 0#32) (constantI S_ 32 0#32)) (addi (constantI S_ 32 0#32) (constantI S_ 32 2000#32)) (constantI S_ 32 0#32)]
                  : Fin 3 → IVec S_ 32)) k (Shape.Idx.first h_S_)).toInt)
                sliceFits_S4x2000x2000_S4x1x2000)
              shapeCasts_S4x1x2000_S4x2000)
            (broadcastInDim S4x2000 ![] bcast_S_S4x2000 (constant (F := Ideal) S_ .f32 0x3F333333#32)))
          k0)
        (broadcastInDim S4x2000 ![0, 1] bcast_S1x2000_S4x2000_0_1
          (broadcastInDim S1x2000 ![1] bcast_S2000_S1x2000_1 (cmpi .slt rows (broadcastInDim S2000 ![] bcast_S_S2000 i0)))))
      (constantI S_ 1 0#1) reducesTo_S4x2000_S4_d1 h_S_))

theorem step_eq (V : Valuation τ sig (Elt Ideal)) :
    step_main_v181_4 V = tripKeep (V (Proc.devRef .tc main_v181_0)) (V (Proc.devRef .tc main_v181_1)) (V (Proc.devRef .tc main_v181_3))
      (V (Proc.devRef .tc main_v181_4)) := by
  unfold step_main_v181_4 res_main_while0b_v200 tripKeep
  simp only [id_eq]
  congr 2

theorem ofBool_one (p : Prop) [Decidable p] : BitVec.ofBool (decide p) = 1#1 ↔ p := by
  by_cases h : p <;> simp [h]

theorem cast_row (y : Vec Ideal S4x1x2000 .f32) (b : Fin 4) (i : Fin 2000) :
    shapeCast S4x2000 y shapeCasts_S4x1x2000_S4x2000 (ix2 b i) = y (ix3 b 0 i) := by
  pointwise

theorem andi_one (x y : BitVec 1) : IntOp.andi x y = 1#1 ↔ x = 1#1 ∧ y = 1#1 := by
  revert x y; decide

theorem not_one (x : BitVec 1) : ~~~x = 1#1 ↔ ¬ x = 1#1 := by
  revert x; decide

/-- What a trip makes of the kept rows. -/
theorem tripKeep_apply (iou : Vec Ideal S4x2000x2000 .f32) (rows : IVec S2000 32) (k0 : IVec S4x2000 1) {n : ℕ} (hn : n < 2000)
    (hr : ∀ j : Fin 2000, rows (ix1 j) = BitVec.ofNat 32 j.1) (b : Fin 4) (j : Fin 2000) :
    tripKeep iou rows (constantI S_ 32 (BitVec.ofNat 32 n)) k0 (ix2 b j) = 1#1
      ↔ if j.1 = n then ¬ ∃ i : Fin 2000, (thr < iou (ix3 b ⟨n, hn⟩ i) ∧ k0 (ix2 b i) = 1#1) ∧ i.1 < n else k0 (ix2 b j) = 1#1 := by
  unfold tripKeep
  rw [scatter_col _ _ _ n hn]
  · by_cases hj : j.1 = n
    · rw [if_pos hj, if_pos hj]
      unfold noti
      rw [not_one, reduce_any]
      refine not_congr (exists_congr fun i => ?_)
      unfold andi
      rw [andi_one, andi_one]
      refine and_congr (and_congr ?_ Iff.rfl) ?_
      · unfold cmpf
        rw [cast_row, slice_row _ _ n hn]
        · pointwise
          rw [ofBool_one]
          rfl
        · rfl
        · show BitVec.toInt (Scalar.select (IntOp.cmpi .slt (BitVec.ofNat 32 n) 0#32) _ (BitVec.ofNat 32 n)) = _
          rw [wrap_ofNat hn, toInt_ofNat (by omega)]
        · rfl
      · pointwise
        rw [hr, slt_ofNat (by omega) (by omega), ofBool_one]
    · rw [if_neg hj, if_neg hj]
  · pointwise
    rw [wrap_ofNat hn, toInt_ofNat (by omega)]

variable {T : Fin 4 → Fin 2000 → Fin 2000 → EReal} {ov : Fin 4 → ℕ → ℕ → Prop}

/-- One trip. -/
theorem loopAt_step (hT : ∀ b (i j : Fin 2000), thr < T b i j ↔ ov b i.1 j.1) {n : ℕ} (hn : n < 2000) {V : Valuation τ sig (Elt Ideal)}
    (h : LoopAt T ov n V) : LoopAt T ov (n + 1) (STEP V) := by
  refine ⟨fun j => ?_, ?_, fun b i j => ?_, fun b j => ?_⟩
  · rw [STEP_main_v181_1]; exact h.rows j
  · rw [STEP_main_v181_3]
    unfold step_main_v181_3
    rw [h.cnt]
    funext x
    show BitVec.ofNat 32 n + 1#32 = BitVec.ofNat 32 (n + 1)
    rw [BitVec.ofNat_add]
  · rw [STEP_main_v181_0]; exact h.iou b i j
  · rw [STEP_main_v181_4, step_eq, h.cnt]
    refine (tripKeep_apply _ _ _ hn h.rows b j).trans ?_
    split
    · next hj =>
      rw [hj, kept_iff]
      constructor
      · refine fun hne => ⟨by omega, fun i hi hk ho => hne ⟨⟨i, by omega⟩, ⟨?_, (h.keep _ _).2 ⟨hi, hk⟩⟩, hi⟩⟩
        rw [h.iou]; exact (hT b ⟨n, hn⟩ ⟨i, by omega⟩).2 ho
      · rintro ⟨-, hk⟩ ⟨i, ⟨h1, h2⟩, h3⟩
        rw [h.iou] at h1
        exact hk i.1 h3 ((h.keep _ _).1 h2).2 ((hT b ⟨n, hn⟩ i).1 h1)
    · next hj =>
      refine (h.keep b j).trans (and_congr_left fun _ => ?_)
      omega

/-- All the trips. -/
theorem loopAt_iter (hT : ∀ b (i j : Fin 2000), thr < T b i j ↔ ov b i.1 j.1) {V : Valuation τ sig (Elt Ideal)} (h : LoopAt T ov 0 V) :
    ∀ n, n ≤ 2000 → LoopAt T ov n (STEP^[n] V)
  | 0, _ => h
  | n + 1, hn => by
    rw [Function.iterate_succ_apply']
    exact loopAt_step hT (by omega) (loopAt_iter hT h n (by omega))

/-- What the loop starts from. -/
theorem loopAt_zero (W : Valuation τ sig (Elt Ideal)) :
    LoopAt (fun b i j => Ideal.div (inter (bxW W b i) (bxW W b j))
      (area (bxW W b i) + area (bxW W b j) - inter (bxW W b i) (bxW W b j) + eps)) (fun b => ovB (bxW W b)) 0 (mid W) := by
  refine ⟨mid_idx W, mid_i W, mid_iou W, fun b j => ?_⟩
  rw [mid_keep]
  have h01 : ¬ (0#1 : BitVec 1) = 1#1 := by decide
  exact ⟨fun h => absurd h h01, fun h => absurd h.1 (by omega)⟩

theorem over_iff (W : Valuation τ sig (Elt Ideal)) (b : Fin 4) (i j : Fin 2000) :
    thr < Ideal.div (inter (bxW W b i) (bxW W b j)) (area (bxW W b i) + area (bxW W b j) - inter (bxW W b i) (bxW W b j) + eps)
      ↔ ovB (bxW W b) i.1 j.1 := by
  have hr : ∀ i : Fin 2000, rowOf (bxW W b) i.1 = bxW W b i := fun i => by
    funext q; unfold rowOf; rw [dif_pos i.2]
  unfold ovB Over
  rw [hr, hr]

/-- Which rows the loop's result keeps: those greedy suppression keeps. -/
theorem loop_keep (W : Valuation τ sig (Elt Ideal)) (b : Fin 4) (j : Fin 2000) :
    ((STEP^[2000] (mid W)) (Proc.devRef .tc main_v181_4) : Vec Ideal S4x2000 .i1) (ix2 b j) = 1#1 ↔ Kept (ovB (bxW W b)) j.1 :=
  ((loopAt_iter (over_iff W) (loopAt_zero W) 2000 (le_refl _)).keep b j).trans (and_iff_right j.2)

end Cert.ReferenceIdeal.Hand

end
-- ==== Proof.RefTail.lean ====
/-
  What the reference makes of the kept rows after its loop: it ranks the rows by a priority, takes the first 300 and gathers their boxes.
-/
module

public import proofs.«01_k».proof.Proof.RefLoop
public import Idealize.ShloMosaic.Lib.ReduceAll

@[expose] public section

set_option maxRecDepth 16384

noncomputable section

namespace Cert.ReferenceIdeal.Hand

open Cert.ReferenceIdeal Cert.ReferenceIdeal.Gen Cert.ReferenceIdeal.Value Cert.Nms
open Idealize.ShloMosaic Idealize.ShloMosaic.TcCoe Idealize.ShloMosaic.StableHlo
open Idealize.SL Idealize.SL.Sem

theorem ofBits_neg_one : Ideal.ofBits FTy.f32 3212836864#32 = (((-1 : ℝ)) : EReal) := by
  simp [Ideal.ofBits, Ideal.ieee, -EReal.coe_mul]
  norm_num

theorem ofNat_sub {j : ℕ} (hj : j < 2000) : IntOp.subi (2000#32) (BitVec.ofNat 32 j) = BitVec.ofNat 32 (2000 - j) := by
  refine BitVec.eq_of_toNat_eq ?_
  unfold IntOp.subi
  simp only [BitVec.toNat_sub, BitVec.toNat_ofNat]
  omega

open Classical in
/-- The priority of a row: kept rows count down from 2000, the others from minus one. -/
theorem priority_apply (W : Valuation τ sig (Elt Ideal)) (K : ℕ → Prop) (b : Fin 4) (j : Fin 2000)
    (hK : (W (Proc.devRef .tc main_v181_4) : Vec Ideal S4x2000 .i1) (ix2 b j) = 1#1 ↔ K j.1) :
    (after hostOps0_22 (after hostOps0_21 W) (Proc.devRef .tc main_v191) : Vec Ideal S4x2000 .f32) (ix2 b j)
      = (((prio K 2000 j.1 : ℤ) : ℝ) : EReal) := by
  after_reads_at
  simp only [id_eq]
  pointwise
  have hj := j.2
  unfold Scalar.select prio
  rw [ofNat_sub j.2, sitofp_ofNat (by omega), sitofp_ofNat (by omega), ofBits_neg_one]
  by_cases h : K j.1
  · rw [if_pos (show _ = (1 : BitVec 1) from hK.2 h), if_pos h]
    rw [← EReal.coe_natCast, Nat.cast_sub hj.le]
    push_cast
    rfl
  · rw [if_neg (fun e : _ = (1 : BitVec 1) => h (hK.1 e)), if_neg h]
    push_cast
    rfl

/-- A sort along the rows' axis that carries a second array: each place gets the second array's entry at the row sorted there. -/
theorem sort2_row (gt : EReal → EReal → BitVec 1) (x : S4x2000.Idx → EReal) (y : IVec S4x2000 32) (b : Fin 4) (t : Fin 2000) :
    (Host.sort2 S4x2000 1 (fun l r => gt l.1 r.1) x y).2 (ix2 b t)
      = y (ix2 b (sortedFrom (fun i j : Fin 2000 => gt (x (ix2 b i)) (x (ix2 b j)) == 1#1) t)) := by
  have hal : ∀ k : Fin 2000, Shape.Idx.along (s := S4x2000) (ix2 b t) (1 : Fin 2) k = ix2 b k := by
    intro k
    funext a
    match a with
    | ⟨0, _⟩ => rfl
    | ⟨1, _⟩ => rfl
  unfold Host.sort2
  rw [dif_pos (by decide)]
  show y (Shape.Idx.along (s := S4x2000) (ix2 b t) (1 : Fin 2) (sortedFrom (fun k k' : Fin 2000 =>
    gt (x (Shape.Idx.along (s := S4x2000) (ix2 b t) (1 : Fin 2) k)) (x (Shape.Idx.along (s := S4x2000) (ix2 b t) (1 : Fin 2) k')) == 1#1) t)) = _
  simp only [hal]
  exact congrArg y (hal _)

theorem slice300 (y : IVec S4x2000 32) (b : Fin 4) (s : Fin 300) :
    extractStridedSlice S4x300 (fun _ => 0) y sliceFits_S4x2000_S4x300 (ix2 b s) = y (ix2 b ⟨s.1, by omega⟩) := by
  unfold extractStridedSlice
  refine congrArg y (funext fun a => ?_)
  match a with
  | ⟨0, _⟩ => exact Fin.ext (Nat.zero_add _)
  | ⟨1, _⟩ => exact Fin.ext (Nat.zero_add _)

/-- The first 300 rows by falling priority. -/
theorem topK_apply (x : Vec Ideal S4x2000 .f32) (K : ℕ → Prop) (b : Fin 4)
    (hx : ∀ j : Fin 2000, x (ix2 b j) = (((prio K 2000 j.1 : ℤ) : ℝ) : EReal)) (s : Fin 300) :
    (Host.topK S4x300 1 (FloatOps.cmpfTotal (F := Ideal) (φ := .f32) .gt) x sliceFits_S4x2000_S4x300).2 (ix2 b s)
      = BitVec.ofNat 32 (src K 2000 ⟨s.1, by omega⟩).1 := by
  have hs : ∀ i j : Fin 2000, (FloatOps.cmpfTotal (F := Ideal) (φ := .f32) .gt (x (ix2 b i)) (x (ix2 b j)) == 1#1)
      = decide (prio K 2000 j.1 < prio K 2000 i.1) := by
    intro i j
    rw [hx, hx]
    show (BitVec.ofBool (decide ((((prio K 2000 j.1 : ℤ) : ℝ) : EReal) < (((prio K 2000 i.1 : ℤ) : ℝ) : EReal))) == 1#1) = _
    by_cases h : prio K 2000 j.1 < prio K 2000 i.1
    · rw [decide_eq_true h, decide_eq_true (EReal.coe_lt_coe_iff.2 (Int.cast_lt.2 h))]; rfl
    · rw [decide_eq_false h, decide_eq_false (fun e => h (Int.cast_lt.1 (EReal.coe_lt_coe_iff.1 e)))]; rfl
  rw [← sortedFrom_prio (K := K) (n := 2000) _ hs]
  dsimp only [Host.topK]
  rw [slice300, sort2_row]
  rfl

/-- Taking rows by number: an in-range number takes its row. -/
theorem gather_apply (x : Vec Ideal S4x2000x4 .f32) (idx : IVec S4x300x1 32) (b : Fin 4) (s : Fin 300) (q : Fin 4) {n : ℕ} (hn : n < 2000)
    (hi : idx (ix3 b s 0) = BitVec.ofNat 32 n) :
    Host.gather gather_S4x2000x4_S4x300x1_S4x300x4_2_1_0_0_1_2_114 x idx (ix3 b s q) = x (ix3 b ⟨n, hn⟩ q) := by
  unfold Host.gather
  refine congrArg x (funext fun a => Fin.ext ?_)
  match a with
  | ⟨0, _⟩ =>
    show gather_S4x2000x4_S4x300x1_S4x300x4_2_1_0_0_1_2_114.start (ix3 b s q) idx (0 : Fin 3)
      + gather_S4x2000x4_S4x300x1_S4x300x4_2_1_0_0_1_2_114.batchCoord (ix3 b s q) (0 : Fin 3)
      + gather_S4x2000x4_S4x300x1_S4x300x4_2_1_0_0_1_2_114.offCoord (ix3 b s q) (0 : Fin 3) = b.1
    rw [show gather_S4x2000x4_S4x300x1_S4x300x4_2_1_0_0_1_2_114.start (ix3 b s q) idx (0 : Fin 3) = 0 from rfl,
      show gather_S4x2000x4_S4x300x1_S4x300x4_2_1_0_0_1_2_114.batchCoord (ix3 b s q) (0 : Fin 3) = b.1 from rfl,
      show gather_S4x2000x4_S4x300x1_S4x300x4_2_1_0_0_1_2_114.offCoord (ix3 b s q) (0 : Fin 3) = 0 from rfl]
    omega
  | ⟨1, _⟩ =>
    show gather_S4x2000x4_S4x300x1_S4x300x4_2_1_0_0_1_2_114.start (ix3 b s q) idx (1 : Fin 3)
      + gather_S4x2000x4_S4x300x1_S4x300x4_2_1_0_0_1_2_114.batchCoord (ix3 b s q) (1 : Fin 3)
      + gather_S4x2000x4_S4x300x1_S4x300x4_2_1_0_0_1_2_114.offCoord (ix3 b s q) (1 : Fin 3) = n
    have hst : gather_S4x2000x4_S4x300x1_S4x300x4_2_1_0_0_1_2_114.start (ix3 b s q) idx (1 : Fin 3) = n := by
      unfold GatherDims.start
      rw [dif_pos (by decide)]
      have hsi : gather_S4x2000x4_S4x300x1_S4x300x4_2_1_0_0_1_2_114.siIdx (ix3 b s q) ⟨0, by decide⟩ = ix3 b s 0 := by
        funext a
        match a with
        | ⟨0, _⟩ => rfl
        | ⟨1, _⟩ => rfl
        | ⟨2, _⟩ => rfl
      refine (congrArg (fun k => min (idx k).toInt.toNat (2000 - 1)) hsi).trans ?_
      show min (idx (ix3 b s 0)).toInt.toNat (2000 - 1) = n
      rw [hi, toInt_ofNat (by omega)]
      omega
    rw [hst,
      show gather_S4x2000x4_S4x300x1_S4x300x4_2_1_0_0_1_2_114.batchCoord (ix3 b s q) (1 : Fin 3) = 0 from rfl,
      show gather_S4x2000x4_S4x300x1_S4x300x4_2_1_0_0_1_2_114.offCoord (ix3 b s q) (1 : Fin 3) = 0 from rfl]
    omega
  | ⟨2, _⟩ =>
    show gather_S4x2000x4_S4x300x1_S4x300x4_2_1_0_0_1_2_114.start (ix3 b s q) idx (2 : Fin 3)
      + gather_S4x2000x4_S4x300x1_S4x300x4_2_1_0_0_1_2_114.batchCoord (ix3 b s q) (2 : Fin 3)
      + gather_S4x2000x4_S4x300x1_S4x300x4_2_1_0_0_1_2_114.offCoord (ix3 b s q) (2 : Fin 3) = q.1
    rw [show gather_S4x2000x4_S4x300x1_S4x300x4_2_1_0_0_1_2_114.start (ix3 b s q) idx (2 : Fin 3) = 0 from rfl,
      show gather_S4x2000x4_S4x300x1_S4x300x4_2_1_0_0_1_2_114.batchCoord (ix3 b s q) (2 : Fin 3) = 0 from rfl,
      show gather_S4x2000x4_S4x300x1_S4x300x4_2_1_0_0_1_2_114.offCoord (ix3 b s q) (2 : Fin 3) = q.1 from rfl]
    omega

/-- Taking rows along the axis, with its wrapping and its range test: an in-range number takes its row. -/
theorem take_apply (W : Valuation τ sig (Elt Ideal)) (b : Fin 4) (s : Fin 300) (q : Fin 4) {n : ℕ} (hn : n < 2000)
    (hi : (W (Proc.devRef .tc main_v192) : Vec Ideal S4x300x1 .i32) (ix3 b s 0) = BitVec.ofNat 32 n) :
    (after hostOps0_24 W (Proc.devRef .tc main_v193) : Vec Ideal S4x300x4 .f32) (ix3 b s q)
      = (W (Proc.devRef .tc main_v125) : Vec Ideal S4x2000x4 .f32) (ix3 b ⟨n, hn⟩ q) := by
  after_reads_at
  have hx : ∀ x : Fin 1, (W (Proc.devRef .tc main_v192) : Vec Ideal S4x300x1 .i32) (ix3 b s x) = BitVec.ofNat 32 n := fun x => by
    rw [show x = 0 from Subsingleton.elim _ _]; exact hi
  have h0 : ∀ y : BitVec 32, Scalar.select (IntOp.cmpi .slt (BitVec.ofNat 32 n) 0#32) y (BitVec.ofNat 32 n) = BitVec.ofNat 32 n :=
    fun y => wrap_ofNat hn y
  have h1 : IntOp.cmpi .sge (BitVec.ofNat 32 n) 0#32 = 1#1 := by
    have e : IntOp.cmpi .sge (BitVec.ofNat 32 n) 0#32 = BitVec.ofBool (decide (0 ≤ n)) := sle_ofNat (a := 0) (b := n) (by omega) (by omega)
    rw [e, ofBool_one]; omega
  have h2 : IntOp.cmpi .sle (BitVec.ofNat 32 n) 1999#32 = 1#1 := by
    rw [show (1999#32 : BitVec 32) = BitVec.ofNat 32 1999 from rfl, sle_ofNat (by omega) (by omega), ofBool_one]; omega
  simp only [hx, h0, h1, h2]
  rw [gather_apply _ _ b s q hn]
  · rw [Finset.univ_unique, Finset.fold_singleton]
    rfl
  · pointwise
    rw [hi]
    exact wrap_ofNat hn _

/-- The last step: the image's number before each box, all images' lines one after the other. -/
theorem last_apply (W : Valuation τ sig (Elt Ideal)) (b : Fin 4) (s : Fin 300) (q : Fin 5) :
    (after hostOps0_25 W (Proc.devRef .tc main_v198) : Vec Ideal S1200x5 .f32) (ix2 (⟨b.1 * 300 + s.1, by omega⟩ : Fin 1200) q)
      = if h : q.1 = 0 then ((b.1 : ℕ) : EReal) else
        (W (Proc.devRef .tc main_v193) : Vec Ideal S4x300x4 .f32) (ix3 b s (⟨q.1 - 1, by omega⟩ : Fin 4)) := by
  after_reads_at
  have h1 : upto hostOps0_25 W 3 (Proc.devRef .tc main_v196) (ix3 b s (0 : Fin 1)) = ((b.1 : ℕ) : EReal) := by
    after_reads_at
    exact sitofp_ofNat (by omega)
  have h2 : ∀ q' : Fin 4, upto hostOps0_25 W 3 (Proc.devRef .tc main_v193) (ix3 b s q')
      = (W (Proc.devRef .tc main_v193) : Vec Ideal S4x300x4 .f32) (ix3 b s q') := by
    intro q'
    after_reads_at
  by_cases h : q.1 = 0
  · rw [dif_pos (show q.1 < 1 by omega), dif_pos h, ← h1]
    congr 2
    exact Fin.ext h
  · rw [dif_neg (show ¬ q.1 < 1 by omega), dif_neg h]
    exact h2 _

/-- The operations after the loop. -/
abbrev post (W : Valuation τ sig (Elt Ideal)) : Valuation τ sig (Elt Ideal) :=
  after hostOps0_25 (after hostOps0_24 (after hostOps0_23 (after hostOps0_22 (after hostOps0_21 W))))

/-- The reference's result, from the boxes and the kept rows the loop leaves. -/
theorem post_apply (W : Valuation τ sig (Elt Ideal)) (b : Fin 4) (s : Fin 300) (q : Fin 5)
    (hK : ∀ j : Fin 2000, (W (Proc.devRef .tc main_v181_4) : Vec Ideal S4x2000 .i1) (ix2 b j) = 1#1 ↔ Kept (ovB (bxW W b)) j.1) :
    (post W (Proc.devRef .tc main_v198) : Vec Ideal S1200x5 .f32) (ix2 (⟨b.1 * 300 + s.1, by omega⟩ : Fin 1200) q) = detOf (bxW W) b s q := by
  refine (last_apply _ b s q).trans ?_
  unfold detOf
  by_cases h : q.1 = 0
  · rw [dif_pos h, dif_pos h]
  · rw [dif_neg h, dif_neg h]
    have hi : (after hostOps0_23 (after hostOps0_22 (after hostOps0_21 W)) (Proc.devRef .tc main_v192) : Vec Ideal S4x300x1 .i32) (ix3 b s 0)
        = BitVec.ofNat 32 (pick (bxW W b) s).1 := by
      have e : ∀ V : Valuation τ sig (Elt Ideal), (after hostOps0_23 V (Proc.devRef .tc main_v192) : Vec Ideal S4x300x1 .i32) (ix3 b s 0)
          = (Host.topK S4x300 1 (FloatOps.cmpfTotal (F := Ideal) (φ := .f32) .gt) (V (Proc.devRef .tc main_v191) : Vec Ideal S4x2000 .f32)
            sliceFits_S4x2000_S4x300).2 (ix2 b s) := by
        intro V
        after_reads_at
      rw [e]
      exact topK_apply _ _ b (fun j => priority_apply W _ b j (hK j)) s
    have e125 : after hostOps0_23 (after hostOps0_22 (after hostOps0_21 W)) (Proc.devRef .tc main_v125) = W (Proc.devRef .tc main_v125) := by
      after_reads_simp
    refine (take_apply _ b s _ (pick (bxW W b) s).2 hi).trans ?_
    exact congrFun e125 _

end Cert.ReferenceIdeal.Hand

end
-- ==== Proof.RefValue.lean ====
/-
  The reference's result as a function of the boxes its operations before the loop compute.
-/
module

public import proofs.«01_k».proof.Proof.RefTail

@[expose] public section

set_option maxRecDepth 16384

noncomputable section

namespace Cert.ReferenceIdeal.Hand

open Cert.ReferenceIdeal Cert.ReferenceIdeal.Gen Cert.ReferenceIdeal.Value Cert.Nms
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- What the buffers hold once the boxes are computed. -/
def preR (c : Dev nD) : Valuation τ sig (Elt Ideal) :=
  after hostOps0_15 (after hostOps0_14 (after hostOps0_13 (after hostOps0_12 (after hostOps0_11 (after hostOps0_10 (after hostOps0_9
    (after hostOps0_8 (after hostOps0_7 (after hostOps0_6 (after hostOps0_5 (after hostOps0_4 (after hostOps0_3 (after hostOps0_2
      (after hostOps0_1 (after hostOps0 fun b => m (c, b))))))))))))))))

theorem entry_eq (c : Dev nD) : entryContents preI m c = mid (preR m c) := by
  unfold preI preR
  simp only [entryContents, afterL_cons, afterL_nil]

theorem mid_boxes (W : Valuation τ sig (Elt Ideal)) : mid W (Proc.devRef .tc main_v125) = W (Proc.devRef .tc main_v125) := by
  unfold mid
  rw [after_of_writes_sub hostOps0_20 _ hostOps0_20_writes (by decide), after_of_writes_sub hostOps0_19 _ hostOps0_19_writes (by decide),
    after_of_writes_sub hostOps0_18 _ hostOps0_18_writes (by decide), after_of_writes_sub hostOps0_17 _ hostOps0_17_writes (by decide),
    after_of_writes_sub hostOps0_16 _ hostOps0_16_writes (by decide)]

/-- The loop leaves the boxes. -/
theorem exit_boxes (c : Dev nD) : bxW (exitContents m c) = bxW (preR m c) := by
  have e : exitContents m c (Proc.devRef .tc main_v125) = preR m c (Proc.devRef .tc main_v125) := by
    rw [exit_keep m c main_v125 (by decide) (by decide), entry_eq, mid_boxes]
  funext b i q
  exact congrFun e _

/-- The loop leaves the rows greedy suppression keeps. -/
theorem exit_kept (c : Dev nD) (b : Fin 4) (j : Fin 2000) :
    (exitContents m c (Proc.devRef .tc main_v181_4) : Vec Ideal S4x2000 .i1) (ix2 b j) = 1#1 ↔ Kept (ovB (bxW (preR m c) b)) j.1 := by
  have e : exitContents m c (Proc.devRef .tc main_v181_4) = STEP^[2000] (mid (preR m c)) (Proc.devRef .tc main_v181_4) := by
    unfold exitContents
    rw [cond_keeps _ main_v181_4 (by decide), atK_agree m c 2000 main_v181_4 (by decide), entry_eq]
  rw [e]
  exact loop_keep (preR m c) b j

/-- The reference's result: the detections of its boxes. -/
theorem final_apply (c : Dev nD) (b : Fin 4) (s : Fin 300) (q : Fin 5) :
    (finalContents condOps preI bodyI postI 2000 m c (Proc.devRef .tc main_v198) : Vec Ideal S1200x5 .f32)
      (ix2 (⟨b.1 * 300 + s.1, by omega⟩ : Fin 1200) q) = detOf (bxW (preR m c)) b s q := by
  have e : finalContents condOps preI bodyI postI 2000 m c = post (exitContents m c) := by
    rw [final_eq]
    unfold postI
    simp only [afterL_cons, afterL_nil]
  rw [e, ← exit_boxes]
  refine post_apply (exitContents m c) b s q fun j => ?_
  rw [exit_boxes]
  exact exit_kept m c b j

/-- The reference runs to that result, its arguments unchanged. -/
theorem run : θ_run (defs (F := Ideal)) (onTc (τ := τ) (main (F := Ideal))) ⟨m, fun _ => 0, ρ⟩ (fun r => ∀ c : Dev nD,
      r.2.mem ((c.tc : Thread nD τ).loc main_v198) = finalContents condOps preI bodyI postI 2000 m c (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨h c main_v198 (by decide), (h c main_arg0 (by decide)).trans (final_arg0 m c),
    (h c main_arg1 (by decide)).trans (final_arg1 m c)⟩) (run_fold m ρ)

end Cert.ReferenceIdeal.Hand

end
-- ==== Proof.Equal.lean ====
/-
  The two programs compute the same result: their boxes agree operation by operation, and both results are the detections of the boxes.
-/
module

public import proofs.«01_k».proof.Proof.Prefix
public import proofs.«01_k».proof.Proof.KernelValue
public import proofs.«01_k».proof.Proof.RefValue
public import proofs.«01_k».proof.Defs

@[expose] public section

set_option maxRecDepth 16384

noncomputable section

namespace Cert.Equal

open Cert.Nms Cert.Prefix
open Idealize.ShloMosaic Idealize.ShloMosaic.TcCoe Idealize.ShloMosaic.StableHlo
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Two launches whose arguments agree on a device. -/
abbrev Args (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)

theorem rel_launch (c : Dev Cert.KernelIdeal.nD) (h : Args m m' c) : Rel 2 (fun b => m (c, b)) (fun b => m' (c, b)) := by
  intro i hi h2
  match i, h2 with
  | 0, _ => exact heq_of_eq h.1.symm
  | 1, _ => exact heq_of_eq h.2.symm

/-- The two programs' boxes are the same. -/
theorem boxes_eq (c : Dev Cert.KernelIdeal.nD) (h : Args m m' c) :
    Cert.KernelIdeal.Hand.boxes m c = Cert.ReferenceIdeal.Hand.bxW (Cert.ReferenceIdeal.Hand.preR m' c) := by
  obtain ⟨h0, h1, h2, h3, h4, h5, h6, h7, h8, h9, h10, h11, h12, h13, h14, h15⟩ := sims
  have hr : Rel 212 (Cert.KernelIdeal.Hand.preV m c) (Cert.ReferenceIdeal.Hand.preR m' c) :=
    h15 _ _ (h14 _ _ (h13 _ _ (h12 _ _ (h11 _ _ (h10 _ _ (h9 _ _ (h8 _ _ (h7 _ _ (h6 _ _ (h5 _ _ (h4 _ _ (h3 _ _ (h2 _ _ (h1 _ _ (h0 _ _ (rel_launch m m' c h))))))))))))))))
  have e : (Cert.KernelIdeal.Hand.preV m c (Proc.devRef .tc Cert.KernelIdeal.main_v125) : Vec Ideal Cert.KernelIdeal.S4x2000x4 .f32)
      = Cert.ReferenceIdeal.Hand.preR m' c (Proc.devRef .tc Cert.ReferenceIdeal.main_v125) :=
    eq_of_heq (hr 211 (by omega) (by omega))
  funext b i q
  exact congrFun e (ix3 b i q)

/-- The two programs' results are the same. -/
theorem result_eq (c : Dev Cert.KernelIdeal.nD) (h : Args m m' c) :
    (finalContents Cert.ReferenceIdeal.Value.condOps Cert.ReferenceIdeal.Value.preI Cert.ReferenceIdeal.Value.bodyI Cert.ReferenceIdeal.Value.postI 2000 m' c
      (Proc.devRef .tc Cert.ReferenceIdeal.main_v198) : Vec Ideal Cert.ReferenceIdeal.S1200x5 .f32)
      = (Cert.KernelIdeal.Hand.res m c : Vec Ideal Cert.KernelIdeal.S1200x5 .f32) := by
  funext k
  have hk : ∃ (b : Fin 4) (s : Fin 300) (q : Fin 5), k = ix2 (⟨b.1 * 300 + s.1, by omega⟩ : Fin 1200) q := by
    have h0 : (k 0).1 < 1200 := (k 0).2
    refine ⟨⟨(k 0).1 / 300, by omega⟩, ⟨(k 0).1 % 300, by omega⟩, k 1, ?_⟩
    funext a
    match a with
    | ⟨0, _⟩ =>
      refine Fin.ext ?_
      show (k 0).1 = (k 0).1 / 300 * 300 + (k 0).1 % 300
      omega
    | ⟨1, _⟩ => rfl
  obtain ⟨b, s, q, rfl⟩ := hk
  refine (Cert.ReferenceIdeal.Hand.final_apply m' c b s q).trans ?_
  refine Eq.trans ?_ (Cert.KernelIdeal.Hand.res_apply m c b s q).symm
  rw [boxes_eq m m' c h]

/-- From launches whose arguments agree the two programs end with the same result, their arguments unchanged. -/
theorem equal : Cert.algebraic_KernelIdeal_ReferenceIdeal (hKernelIdeal := Cert.KernelIdeal.Gen.facts) (hReferenceIdeal := Cert.ReferenceIdeal.Gen.facts) :=
  fun m g m' g' _ h => ⟨Cert.KernelIdeal.Hand.res m, Cert.KernelIdeal.Hand.run m g,
    (θ_run _ _ _).mono (fun _ hr c => ⟨(hr c).1.trans (result_eq m m' c (h c)), (hr c).2⟩) (Cert.ReferenceIdeal.Hand.run m' g')⟩

end Cert.Equal

end
-- ==== Proof.lean ====
/-
  The proof of `Cert.Claim` (proofs.«01_k».proof.Defs): each claim from its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameIdeal
public import proofs.«01_k».proof.Proof.FrameReference
public import proofs.«01_k».proof.Proof.Equal
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Hand.frame m g,
  trivial, Cert.Equal.equal⟩

end Cert.Proof

end
